-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x20000x4 : Shape := ⟨3, ![8, 20000, 4]⟩
abbrev S8x20000x81 : Shape := ⟨3, ![8, 20000, 81]⟩
abbrev S20000x4 : Shape := ⟨2, ![20000, 4]⟩
abbrev S_ : Shape := ⟨0, ![]⟩

class Facts : Prop where
  bcast_S_S8x20000x4 : S_.BroadcastsInDim S8x20000x4 (![] : Fin 0 → Fin S8x20000x4.rank)
  reducesTo_S8x20000x4_S_d0_1_2 : S8x20000x4.ReducesTo [0, 1, 2] S_
  h_S_ : 0 < S_.numel
  bcast_S_S20000x4 : S_.BroadcastsInDim S20000x4 (![] : Fin 0 → Fin S20000x4.rank)
  reducesTo_S20000x4_S_d0_1 : S20000x4.ReducesTo [0, 1] S_

variable [Facts]

def fn {F : FTy → Type} [FloatOps F] (main_arg0 : FVec F S8x20000x4 .f32) (main_arg1 : FVec F S8x20000x81 .f32) (main_arg2 : FVec F S20000x4 .f32) : IVec S_ 1 :=
  let main_v0 : FVec F S8x20000x4 .f32 := Host.absf main_arg0
  let main_cst : FVec F S_ .f32 := constant S_ .f32 0x7F800000#32
  let main_v1 : FVec F S8x20000x4 .f32 := broadcastInDim S8x20000x4 ![] bcast_S_S8x20000x4 main_cst
  let main_v2 : IVec S8x20000x4 1 := cmpf .olt main_v0 main_v1
  let main_c : IVec S_ 1 := constantI S_ 1 1#1
  let main_v3 : IVec S_ 1 := (fun x v => Host.reduce IntOp.andi x v reducesTo_S8x20000x4_S_d0_1_2 h_S_) main_v2 main_c
  let main_v4 : FVec F S20000x4 .f32 := Host.absf main_arg2
  let main_cst_0 : FVec F S_ .f32 := constant S_ .f32 0x7F800000#32
  let main_v5 : FVec F S20000x4 .f32 := broadcastInDim S20000x4 ![] bcast_S_S20000x4 main_cst_0
  let main_v6 : IVec S20000x4 1 := cmpf .olt main_v4 main_v5
  let main_c_1 : IVec S_ 1 := constantI S_ 1 1#1
  let main_v7 : IVec S_ 1 := (fun x v => Host.reduce IntOp.andi x v reducesTo_S20000x4_S_d0_1 h_S_) main_v6 main_c_1
  let main_v8 : IVec S_ 1 := andi main_v3 main_v7
  main_v8
-- ==== Kernel.lean ====
abbrev S8x20000x4 : Shape := ⟨3, ![8, 20000, 4]⟩
abbrev S8x20000x81 : Shape := ⟨3, ![8, 20000, 81]⟩
abbrev S20000x4 : Shape := ⟨2, ![20000, 4]⟩
abbrev S81x8x20000 : Shape := ⟨3, ![81, 8, 20000]⟩
abbrev S4x8x20000 : Shape := ⟨3, ![4, 8, 20000]⟩
abbrev S4x20000 : Shape := ⟨2, ![4, 20000]⟩
abbrev S4x1x20000 : Shape := ⟨3, ![4, 1, 20000]⟩
abbrev S8x20000 : Shape := ⟨2, ![8, 20000]⟩
abbrev S81x8x2560 : Shape := ⟨3, ![81, 8, 2560]⟩
abbrev S8x2560 : Shape := ⟨2, ![8, 2560]⟩
abbrev S1x8x2560 : Shape := ⟨3, ![1, 8, 2560]⟩
abbrev S8x200 : Shape := ⟨2, ![8, 200]⟩
abbrev S1x8x20000 : Shape := ⟨3, ![1, 8, 20000]⟩
abbrev S1x1x20000 : Shape := ⟨3, ![1, 1, 20000]⟩
abbrev S1x20000 : Shape := ⟨2, ![1, 20000]⟩
abbrev S8 : Shape := ⟨1, ![8]⟩
abbrev S8x1 : Shape := ⟨2, ![8, 1]⟩
abbrev S8x200x1 : Shape := ⟨3, ![8, 200, 1]⟩
abbrev S8x200x6 : Shape := ⟨3, ![8, 200, 6]⟩

abbrev nBuf : Space → Nat
  | .hbm => 22
  | .vmem => 16
  | .smem => 0
  | _ => 0

abbrev bufTy : (tb : Table) → Fin (tcTables nBuf tb) → BufTy
  | .hbm, ⟨0, _⟩ => ⟨S8x20000x4, .f32⟩
  | .hbm, ⟨1, _⟩ => ⟨S8x20000x81, .f32⟩
  | .hbm, ⟨2, _⟩ => ⟨S20000x4, .f32⟩
  | .hbm, ⟨3, _⟩ => ⟨S81x8x20000, .f32⟩
  | .hbm, ⟨4, _⟩ => ⟨S4x8x20000, .f32⟩
  | .hbm, ⟨5, _⟩ => ⟨S4x20000, .f32⟩
  | .hbm, ⟨6, _⟩ => ⟨S4x1x20000, .f32⟩
  | .hbm, ⟨7, _⟩ => ⟨S8x20000, .f32⟩
  | .hbm, ⟨8, _⟩ => ⟨S8x20000, .f32⟩
  | .hbm, ⟨9, _⟩ => ⟨S8x200, .f32⟩
  | .hbm, ⟨10, _⟩ => ⟨S8x200, .f32⟩
  | .hbm, ⟨11, _⟩ => ⟨S8x200, .f32⟩
  | .hbm, ⟨12, _⟩ => ⟨S8x200, .f32⟩
  | .hbm, ⟨13, _⟩ => ⟨S8x200, .f32⟩
  | .hbm, ⟨14, _⟩ => ⟨S8x200, .f32⟩
  | .hbm, ⟨15, _⟩ => ⟨S8x200x1, .f32⟩
  | .hbm, ⟨16, _⟩ => ⟨S8x200x1, .f32⟩
  | .hbm, ⟨17, _⟩ => ⟨S8x200x1, .f32⟩
  | .hbm, ⟨18, _⟩ => ⟨S8x200x1, .f32⟩
  | .hbm, ⟨19, _⟩ => ⟨S8x200x1, .f32⟩
  | .hbm, ⟨20, _⟩ => ⟨S8x200x1, .f32⟩
  | .hbm, ⟨21, _⟩ => ⟨S8x200x6, .f32⟩
  | .local _ .vmem, ⟨0, _⟩ => ⟨S81x8x2560, .f32⟩
  | .local _ .vmem, ⟨1, _⟩ => ⟨S81x8x2560, .f32⟩
  | .local _ .vmem, ⟨2, _⟩ => ⟨S8x2560, .f32⟩
  | .local _ .vmem, ⟨3, _⟩ => ⟨S8x2560, .f32⟩
  | .local _ .vmem, ⟨4, _⟩ => ⟨S8x2560, .f32⟩
  | .local _ .vmem, ⟨5, _⟩ => ⟨S8x2560, .f32⟩
  | .local _ .vmem, ⟨6, _⟩ => ⟨S4x8x20000, .f32⟩
  | .local _ .vmem, ⟨7, _⟩ => ⟨S4x1x20000, .f32⟩
  | .local _ .vmem, ⟨8, _⟩ => ⟨S8x20000, .f32⟩
  | .local _ .vmem, ⟨9, _⟩ => ⟨S8x20000, .f32⟩
  | .local _ .vmem, ⟨10, _⟩ => ⟨S8x200, .f32⟩
  | .local _ .vmem, ⟨11, _⟩ => ⟨S8x200, .f32⟩
  | .local _ .vmem, ⟨12, _⟩ => ⟨S8x200, .f32⟩
  | .local _ .vmem, ⟨13, _⟩ => ⟨S8x200, .f32⟩
  | .local _ .vmem, ⟨14, _⟩ => ⟨S8x200, .f32⟩
  | .local _ .vmem, ⟨15, _⟩ => ⟨S8x200, .f32⟩
  | _, _ => ⟨S8x20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v5_4 : Ref sig .tc := ⟨.hbm, 13, rfl⟩
abbrev main_v5_5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S81x8x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := .none

@[reducible] def k1_t1_loop : Scf.Loop 32 :=
  let c0_i32 : BitVec 32 := 0#32
  let c200_i32 : BitVec 32 := 200#32
  let v81 : BitVec 32 := Scalar.addi c0_i32 c200_i32
  let c1_i32 : BitVec 32 := 1#32
  ⟨c0_i32, v81, c1_i32⟩
abbrev stage1_0 : Fin 1 → Memref sig .tc .vmem S4x8x20000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4x1x20000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x20000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x20000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S8x200 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S8x200 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S8x200 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S8x200 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S8x200 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S8x200 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
-- ==== ReferenceIdeal.lean ====
abbrev S8x20000x4 : Shape := ⟨3, ![8, 20000, 4]⟩
abbrev S8x20000x81 : Shape := ⟨3, ![8, 20000, 81]⟩
abbrev S20000x4 : Shape := ⟨2, ![20000, 4]⟩
abbrev S_ : Shape := ⟨0, ![]⟩
abbrev S8x20000 : Shape := ⟨2, ![8, 20000]⟩
abbrev S8x20000x1 : Shape := ⟨3, ![8, 20000, 1]⟩
abbrev S8x20000x80 : Shape := ⟨3, ![8, 20000, 80]⟩
abbrev S1x20000x4 : Shape := ⟨3, ![1, 20000, 4]⟩
abbrev S1x20000x2 : Shape := ⟨3, ![1, 20000, 2]⟩
abbrev S8x20000x2 : Shape := ⟨3, ![8, 20000, 2]⟩
abbrev S8x20000x6 : Shape := ⟨3, ![8, 20000, 6]⟩
abbrev S8 : Shape := ⟨1, ![8]⟩
abbrev S8x1x1 : Shape := ⟨3, ![8, 1, 1]⟩
abbrev S200x8x6 : Shape := ⟨3, ![200, 8, 6]⟩
abbrev S8x1 : Shape := ⟨2, ![8, 1]⟩
abbrev S8x1x6 : Shape := ⟨3, ![8, 1, 6]⟩
abbrev S8x6 : Shape := ⟨2, ![8, 6]⟩
abbrev S8x1x4 : Shape := ⟨3, ![8, 1, 4]⟩
abbrev S8x1x2 : Shape := ⟨3, ![8, 1, 2]⟩
abbrev S20000 : Shape := ⟨1, ![20000]⟩
abbrev S1x20000 : Shape := ⟨2, ![1, 20000]⟩
abbrev S1x8x6 : Shape := ⟨3, ![1, 8, 6]⟩
abbrev S8x200x6 : Shape := ⟨3, ![8, 200, 6]⟩

abbrev nBuf : Space → Nat
  | .hbm => 174
  | .vmem => 0
  | .smem => 0
  | _ => 0

abbrev hbmTy0_0 (i : Nat) : BufTy := match i % 128 with
  | 0 => ⟨S8x20000x4, .f32⟩
  | 1 => ⟨S8x20000x81, .f32⟩
  | 2 => ⟨S20000x4, .f32⟩
  | 3 => ⟨S_, .f32⟩
  | 4 => ⟨S8x20000, .f32⟩
  | 5 => ⟨S_, .f32⟩
  | 6 => ⟨S8x20000, .f32⟩
  | 7 => ⟨S8x20000, .f32⟩
  | 8 => ⟨S8x20000x1, .f32⟩
  | 9 => ⟨S8x20000x81, .f32⟩
  | 10 => ⟨S8x20000x81, .f32⟩
  | 11 => ⟨S8x20000x81, .f32⟩
  | 12 => ⟨S_, .f32⟩
  | 13 => ⟨S8x20000, .f32⟩
  | 14 => ⟨S8x20000x1, .f32⟩
  | 15 => ⟨S8x20000x81, .f32⟩
  | 16 => ⟨S8x20000x81, .f32⟩
  | 17 => ⟨S8x20000x80, .f32⟩
  | 18 => ⟨S8x20000x1, .f32⟩
  | 19 => ⟨S8x20000x1, .i32⟩
  | 20 => ⟨S8x20000x1, .f32⟩
  | 21 => ⟨S1x20000x4, .f32⟩
  | 22 => ⟨S1x20000x2, .f32⟩
  | 23 => ⟨S8x20000x2, .f32⟩
  | 24 => ⟨S_, .f32⟩
  | 25 => ⟨S8x20000x2, .f32⟩
  | 26 => ⟨S8x20000x2, .f32⟩
  | 27 => ⟨S1x20000x2, .f32⟩
  | 28 => ⟨S8x20000x2, .f32⟩
  | 29 => ⟨S8x20000x2, .f32⟩
  | 30 => ⟨S8x20000x2, .f32⟩
  | 31 => ⟨S8x20000x2, .f32⟩
  | 32 => ⟨S1x20000x2, .f32⟩
  | 33 => ⟨S8x20000x2, .f32⟩
  | 34 => ⟨S_, .f32⟩
  | 35 => ⟨S8x20000x2, .f32⟩
  | 36 => ⟨S8x20000x2, .f32⟩
  | 37 => ⟨S8x20000x2, .f32⟩
  | 38 => ⟨S8x20000x2, .f32⟩
  | 39 => ⟨S8x20000x2, .f32⟩
  | 40 => ⟨S_, .f32⟩
  | 41 => ⟨S8x20000x2, .f32⟩
  | 42 => ⟨S8x20000x2, .f32⟩
  | 43 => ⟨S8x20000x2, .f32⟩
  | 44 => ⟨S8x20000x2, .f32⟩
  | 45 => ⟨S8x20000x4, .f32⟩
  | 46 => ⟨S8x20000x6, .f32⟩
  | 47 => ⟨S_, .f32⟩
  | 48 => ⟨S8, .f32⟩
  | 49 => ⟨S8x1x1, .f32⟩
  | 50 => ⟨S_, .f32⟩
  | 51 => ⟨S8x1x1, .f32⟩
  | 52 => ⟨S8x1x1, .f32⟩
  | 53 => ⟨S8x20000x1, .f32⟩
  | 54 => ⟨S8x20000x1, .f32⟩
  | 55 => ⟨S8x20000x4, .f32⟩
  | 56 => ⟨S8x20000x4, .f32⟩
  | 57 => ⟨S8x20000, .f32⟩
  | 58 => ⟨S_, .f32⟩
  | 59 => ⟨S8x20000, .f32⟩
  | 60 => ⟨S8x20000, .i1⟩
  | 61 => ⟨S8x20000, .f32⟩
  | 62 => ⟨S_, .f32⟩
  | 63 => ⟨S_, .f32⟩
  | 64 => ⟨S8x20000, .f32⟩
  | 65 => ⟨S8x20000, .f32⟩
  | 66 => ⟨S_, .f32⟩
  | 67 => ⟨S200x8x6, .f32⟩
  | 68 => ⟨S_, .i32⟩
  | 69 => ⟨S8x20000x6, .f32⟩
  | 70 => ⟨S8x20000x4, .f32⟩
  | 71 => ⟨S_, .i32⟩
  | 72 => ⟨S8x20000, .f32⟩
  | 73 => ⟨S200x8x6, .f32⟩
  | 74 => ⟨S_, .i32⟩
  | 75 => ⟨S_, .i1⟩
  | 76 => ⟨S8x1, .f32⟩
  | 77 => ⟨S8x1, .i32⟩
  | 78 => ⟨S_, .f32⟩
  | 79 => ⟨S8x1, .f32⟩
  | 80 => ⟨S8x1, .i1⟩
  | 81 => ⟨S8x1x1, .i32⟩
  | 82 => ⟨S_, .i32⟩
  | 83 => ⟨S8x1x1, .i32⟩
  | 84 => ⟨S8x1x1, .i1⟩
  | 85 => ⟨S_, .i32⟩
  | 86 => ⟨S8x1x1, .i32⟩
  | 87 => ⟨S8x1x1, .i32⟩
  | 88 => ⟨S8x1x1, .i32⟩
  | 89 => ⟨S8x1x6, .f32⟩
  | 90 => ⟨S8x6, .f32⟩
  | 91 => ⟨S_, .f32⟩
  | 92 => ⟨S_, .f32⟩
  | 93 => ⟨S8x6, .i1⟩
  | 94 => ⟨S8x6, .f32⟩
  | 95 => ⟨S8x6, .f32⟩
  | 96 => ⟨S8x1x1, .i32⟩
  | 97 => ⟨S_, .i32⟩
  | 98 => ⟨S8x1x1, .i32⟩
  | 99 => ⟨S8x1x1, .i1⟩
  | 100 => ⟨S_, .i32⟩
  | 101 => ⟨S8x1x1, .i32⟩
  | 102 => ⟨S8x1x1, .i32⟩
  | 103 => ⟨S8x1x1, .i32⟩
  | 104 => ⟨S8x1x4, .f32⟩
  | 105 => ⟨S8x1x2, .f32⟩
  | 106 => ⟨S8x20000x2, .f32⟩
  | 107 => ⟨S8x20000x2, .f32⟩
  | 108 => ⟨S8x20000x2, .f32⟩
  | 109 => ⟨S8x1x2, .f32⟩
  | 110 => ⟨S8x20000x2, .f32⟩
  | 111 => ⟨S8x20000x2, .f32⟩
  | 112 => ⟨S8x20000x2, .f32⟩
  | 113 => ⟨S8x20000x2, .f32⟩
  | 114 => ⟨S_, .f32⟩
  | 115 => ⟨S8x20000x2, .f32⟩
  | 116 => ⟨S8x20000x2, .f32⟩
  | 117 => ⟨S8x20000x1, .f32⟩
  | 118 => ⟨S8x20000, .f32⟩
  | 119 => ⟨S8x20000x1, .f32⟩
  | 120 => ⟨S8x20000, .f32⟩
  | 121 => ⟨S8x20000, .f32⟩
  | 122 => ⟨S8x1x1, .f32⟩
  | 123 => ⟨S8x1, .f32⟩
  | 124 => ⟨S8x1x1, .f32⟩
  | 125 => ⟨S8x1, .f32⟩
  | 126 => ⟨S8x1, .f32⟩
  | 127 => ⟨S8x1x1, .f32⟩
  | _ => ⟨S8x20000x4, .f32⟩

abbrev hbmTy0_1 (i : Nat) : BufTy := match i % 128 with
  | 0 => ⟨S8x1, .f32⟩
  | 1 => ⟨S8x1x1, .f32⟩
  | 2 => ⟨S8x1, .f32⟩
  | 3 => ⟨S8x1, .f32⟩
  | 4 => ⟨S8x1, .f32⟩
  | 5 => ⟨S8x20000x1, .f32⟩
  | 6 => ⟨S8x20000, .f32⟩
  | 7 => ⟨S8x20000x1, .f32⟩
  | 8 => ⟨S8x20000, .f32⟩
  | 9 => ⟨S8x20000, .f32⟩
  | 10 => ⟨S8x20000x1, .f32⟩
  | 11 => ⟨S8x20000, .f32⟩
  | 12 => ⟨S8x20000x1, .f32⟩
  | 13 => ⟨S8x20000, .f32⟩
  | 14 => ⟨S8x20000, .f32⟩
  | 15 => ⟨S8x20000, .f32⟩
  | 16 => ⟨S8x20000, .f32⟩
  | 17 => ⟨S8x20000, .f32⟩
  | 18 => ⟨S8x20000, .f32⟩
  | 19 => ⟨S_, .f32⟩
  | 20 => ⟨S8x20000, .f32⟩
  | 21 => ⟨S8x20000, .f32⟩
  | 22 => ⟨S8x20000, .f32⟩
  | 23 => ⟨S_, .f32⟩
  | 24 => ⟨S8x20000, .f32⟩
  | 25 => ⟨S8x20000, .i1⟩
  | 26 => ⟨S_, .f32⟩
  | 27 => ⟨S_, .f32⟩
  | 28 => ⟨S8x20000, .f32⟩
  | 29 => ⟨S8x20000, .f32⟩
  | 30 => ⟨S20000, .i32⟩
  | 31 => ⟨S1x20000, .i32⟩
  | 32 => ⟨S8x20000, .i32⟩
  | 33 => ⟨S8x20000, .i32⟩
  | 34 => ⟨S8x20000, .i1⟩
  | 35 => ⟨S_, .f32⟩
  | 36 => ⟨S_, .f32⟩
  | 37 => ⟨S8x20000, .f32⟩
  | 38 => ⟨S8x20000, .f32⟩
  | 39 => ⟨S1x8x6, .f32⟩
  | 40 => ⟨S_, .i32⟩
  | 41 => ⟨S_, .i32⟩
  | 42 => ⟨S200x8x6, .f32⟩
  | 43 => ⟨S_, .i32⟩
  | 44 => ⟨S_, .i32⟩
  | 45 => ⟨S8x200x6, .f32⟩
  | _ => ⟨S8x20000x4, .f32⟩

abbrev hbmTy (i : Nat) : BufTy := match i / 128 with
  | 0 => hbmTy0_0 i
  | 1 => hbmTy0_1 i
  | _ => ⟨S8x20000x4, .f32⟩

abbrev bufTy : (tb : Table) → Fin (tcTables nBuf tb) → BufTy
  | .hbm, ⟨i, _⟩ => hbmTy i
  | _, _ => ⟨S8x20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_values : Ref sig .tc := ⟨.hbm, 18, rfl⟩
abbrev main_indices : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_call0_v0 : Ref sig .tc := ⟨.hbm, 63, rfl⟩
abbrev main_call0_v1 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_c : Ref sig .tc := ⟨.hbm, 68, rfl⟩
abbrev main_v50_0 : Ref sig .tc := ⟨.hbm, 69, rfl⟩
abbrev main_v50_1 : Ref sig .tc := ⟨.hbm, 70, rfl⟩
abbrev main_v50_2 : Ref sig .tc := ⟨.hbm, 71, rfl⟩
abbrev main_v50_3 : Ref sig .tc := ⟨.hbm, 72, rfl⟩
abbrev main_v50_4 : Ref sig .tc := ⟨.hbm, 73, rfl⟩
abbrev main_while0c_c_14 : Ref sig .tc := ⟨.hbm, 74, rfl⟩
abbrev main_while0c_v52 : Ref sig .tc := ⟨.hbm, 75, rfl⟩
abbrev main_while0b_values_14 : Ref sig .tc := ⟨.hbm, 76, rfl⟩
abbrev main_while0b_indices_15 : Ref sig .tc := ⟨.hbm, 77, rfl⟩
abbrev main_while0b_cst_16 : Ref sig .tc := ⟨.hbm, 78, rfl⟩
abbrev main_while0b_v52 : Ref sig .tc := ⟨.hbm, 79, rfl⟩
abbrev main_while0b_v53 : Ref sig .tc := ⟨.hbm, 80, rfl⟩
abbrev main_while0b_v54 : Ref sig .tc := ⟨.hbm, 81, rfl⟩
abbrev main_while0b_call1_c : Ref sig .tc := ⟨.hbm, 82, rfl⟩
abbrev main_while0b_call1_v0 : Ref sig .tc := ⟨.hbm, 83, rfl⟩
abbrev main_while0b_call1_v1 : Ref sig .tc := ⟨.hbm, 84, rfl⟩
abbrev main_while0b_call1_c_0 : Ref sig .tc := ⟨.hbm, 85, rfl⟩
abbrev main_while0b_call1_v2 : Ref sig .tc := ⟨.hbm, 86, rfl⟩
abbrev main_while0b_call1_v3 : Ref sig .tc := ⟨.hbm, 87, rfl⟩
abbrev main_while0b_call1_v4 : Ref sig .tc := ⟨.hbm, 88, rfl⟩
abbrev main_while0b_v55 : Ref sig .tc := ⟨.hbm, 89, rfl⟩
abbrev main_while0b_v56 : Ref sig .tc := ⟨.hbm, 90, rfl⟩
abbrev main_while0b_cst_17 : Ref sig .tc := ⟨.hbm, 91, rfl⟩
abbrev main_while0b_call2_v0 : Ref sig .tc := ⟨.hbm, 92, rfl⟩
abbrev main_while0b_call2_v1 : Ref sig .tc := ⟨.hbm, 93, rfl⟩
abbrev main_while0b_call2_v2 : Ref sig .tc := ⟨.hbm, 94, rfl⟩
abbrev main_while0b_v57 : Ref sig .tc := ⟨.hbm, 95, rfl⟩
abbrev main_while0b_v58 : Ref sig .tc := ⟨.hbm, 96, rfl⟩
abbrev main_while0b_call3_c : Ref sig .tc := ⟨.hbm, 97, rfl⟩
abbrev main_while0b_call3_v0 : Ref sig .tc := ⟨.hbm, 98, rfl⟩
abbrev main_while0b_call3_v1 : Ref sig .tc := ⟨.hbm, 99, rfl⟩
abbrev main_while0b_call3_c_0 : Ref sig .tc := ⟨.hbm, 100, rfl⟩
abbrev main_while0b_call3_v2 : Ref sig .tc := ⟨.hbm, 101, rfl⟩
abbrev main_while0b_call3_v3 : Ref sig .tc := ⟨.hbm, 102, rfl⟩
abbrev main_while0b_call3_v4 : Ref sig .tc := ⟨.hbm, 103, rfl⟩
abbrev main_while0b_v59 : Ref sig .tc := ⟨.hbm, 104, rfl⟩
abbrev main_while0b_v60 : Ref sig .tc := ⟨.hbm, 105, rfl⟩
abbrev main_while0b_v61 : Ref sig .tc := ⟨.hbm, 106, rfl⟩
abbrev main_while0b_v62 : Ref sig .tc := ⟨.hbm, 107, rfl⟩
abbrev main_while0b_v63 : Ref sig .tc := ⟨.hbm, 108, rfl⟩
abbrev main_while0b_v64 : Ref sig .tc := ⟨.hbm, 109, rfl⟩
abbrev main_while0b_v65 : Ref sig .tc := ⟨.hbm, 110, rfl⟩
abbrev main_while0b_v66 : Ref sig .tc := ⟨.hbm, 111, rfl⟩
abbrev main_while0b_v67 : Ref sig .tc := ⟨.hbm, 112, rfl⟩
abbrev main_while0b_v68 : Ref sig .tc := ⟨.hbm, 113, rfl⟩
abbrev main_while0b_cst_18 : Ref sig .tc := ⟨.hbm, 114, rfl⟩
abbrev main_while0b_v69 : Ref sig .tc := ⟨.hbm, 115, rfl⟩
abbrev main_while0b_v70 : Ref sig .tc := ⟨.hbm, 116, rfl⟩
abbrev main_while0b_v71 : Ref sig .tc := ⟨.hbm, 117, rfl⟩
abbrev main_while0b_v72 : Ref sig .tc := ⟨.hbm, 118, rfl⟩
abbrev main_while0b_v73 : Ref sig .tc := ⟨.hbm, 119, rfl⟩
abbrev main_while0b_v74 : Ref sig .tc := ⟨.hbm, 120, rfl⟩
abbrev main_while0b_v75 : Ref sig .tc := ⟨.hbm, 121, rfl⟩
abbrev main_while0b_v76 : Ref sig .tc := ⟨.hbm, 122, rfl⟩
abbrev main_while0b_v77 : Ref sig .tc := ⟨.hbm, 123, rfl⟩
abbrev main_while0b_v78 : Ref sig .tc := ⟨.hbm, 124, rfl⟩
abbrev main_while0b_v79 : Ref sig .tc := ⟨.hbm, 125, rfl⟩
abbrev main_while0b_v80 : Ref sig .tc := ⟨.hbm, 126, rfl⟩
abbrev main_while0b_v81 : Ref sig .tc := ⟨.hbm, 127, rfl⟩
abbrev main_while0b_v82 : Ref sig .tc := ⟨.hbm, 128, rfl⟩
abbrev main_while0b_v83 : Ref sig .tc := ⟨.hbm, 129, rfl⟩
abbrev main_while0b_v84 : Ref sig .tc := ⟨.hbm, 130, rfl⟩
abbrev main_while0b_v85 : Ref sig .tc := ⟨.hbm, 131, rfl⟩
abbrev main_while0b_v86 : Ref sig .tc := ⟨.hbm, 132, rfl⟩
abbrev main_while0b_v87 : Ref sig .tc := ⟨.hbm, 133, rfl⟩
abbrev main_while0b_v88 : Ref sig .tc := ⟨.hbm, 134, rfl⟩
abbrev main_while0b_v89 : Ref sig .tc := ⟨.hbm, 135, rfl⟩
abbrev main_while0b_v90 : Ref sig .tc := ⟨.hbm, 136, rfl⟩
abbrev main_while0b_v91 : Ref sig .tc := ⟨.hbm, 137, rfl⟩
abbrev main_while0b_v92 : Ref sig .tc := ⟨.hbm, 138, rfl⟩
abbrev main_while0b_v93 : Ref sig .tc := ⟨.hbm, 139, rfl⟩
abbrev main_while0b_v94 : Ref sig .tc := ⟨.hbm, 140, rfl⟩
abbrev main_while0b_v95 : Ref sig .tc := ⟨.hbm, 141, rfl⟩
abbrev main_while0b_v96 : Ref sig .tc := ⟨.hbm, 142, rfl⟩
abbrev main_while0b_v97 : Ref sig .tc := ⟨.hbm, 143, rfl⟩
abbrev main_while0b_v98 : Ref sig .tc := ⟨.hbm, 144, rfl⟩
abbrev main_while0b_v99 : Ref sig .tc := ⟨.hbm, 145, rfl⟩
abbrev main_while0b_v100 : Ref sig .tc := ⟨.hbm, 146, rfl⟩
abbrev main_while0b_cst_19 : Ref sig .tc := ⟨.hbm, 147, rfl⟩
abbrev main_while0b_v101 : Ref sig .tc := ⟨.hbm, 148, rfl⟩
abbrev main_while0b_v102 : Ref sig .tc := ⟨.hbm, 149, rfl⟩
abbrev main_while0b_v103 : Ref sig .tc := ⟨.hbm, 150, rfl⟩
abbrev main_while0b_cst_20 : Ref sig .tc := ⟨.hbm, 151, rfl⟩
abbrev main_while0b_v104 : Ref sig .tc := ⟨.hbm, 152, rfl⟩
abbrev main_while0b_v105 : Ref sig .tc := ⟨.hbm, 153, rfl⟩
abbrev main_while0b_cst_21 : Ref sig .tc := ⟨.hbm, 154, rfl⟩
abbrev main_while0b_call4_v0 : Ref sig .tc := ⟨.hbm, 155, rfl⟩
abbrev main_while0b_call4_v1 : Ref sig .tc := ⟨.hbm, 156, rfl⟩
abbrev main_while0b_v106 : Ref sig .tc := ⟨.hbm, 157, rfl⟩
abbrev main_while0b_v107 : Ref sig .tc := ⟨.hbm, 158, rfl⟩
abbrev main_while0b_v108 : Ref sig .tc := ⟨.hbm, 159, rfl⟩
abbrev main_while0b_v109 : Ref sig .tc := ⟨.hbm, 160, rfl⟩
abbrev main_while0b_v110 : Ref sig .tc := ⟨.hbm, 161, rfl⟩
abbrev main_while0b_v111 : Ref sig .tc := ⟨.hbm, 162, rfl⟩
abbrev main_while0b_cst_22 : Ref sig .tc := ⟨.hbm, 163, rfl⟩
abbrev main_while0b_call5_v0 : Ref sig .tc := ⟨.hbm, 164, rfl⟩
abbrev main_while0b_call5_v1 : Ref sig .tc := ⟨.hbm, 165, rfl⟩
abbrev main_while0b_v112 : Ref sig .tc := ⟨.hbm, 166, rfl⟩
abbrev main_while0b_call6_v0 : Ref sig .tc := ⟨.hbm, 167, rfl⟩
abbrev main_while0b_call6_c : Ref sig .tc := ⟨.hbm, 168, rfl⟩
abbrev main_while0b_call6_c_0 : Ref sig .tc := ⟨.hbm, 169, rfl⟩
abbrev main_while0b_v113 : Ref sig .tc := ⟨.hbm, 170, rfl⟩
abbrev main_while0b_c_23 : Ref sig .tc := ⟨.hbm, 171, rfl⟩
abbrev main_while0b_v114 : Ref sig .tc := ⟨.hbm, 172, rfl⟩
abbrev main_v51 : Ref sig .tc := ⟨.hbm, 173, rfl⟩

abbrev nD : Nat := 1
abbrev τ : Topo := Topo.v7x

variable {F : FTy → Type} [FloatOps F]

abbrev main_while0_count : Scf.Loop 32 := ⟨0#32, 200#32, 1#32⟩
-- ==== Proof.KernelIdeal.Scores.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.RegionArraysS
public import Idealize.ShloMosaic.Lib.Pipeline.FrameBody
public import Idealize.ShloMosaic.Lib.Tactic

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- What the scores' body leaves in its two results' staging buffers, with the run. -/
noncomputable def scoresRun (c : Dev nD) (i : grid0.Coords) (M1 : Memref sig .tc .vmem S81x8x2560 .f32) (h1 : M1.IsWhole) (M2 : Memref sig .tc .vmem S8x2560 .f32) (h2 : M2.IsWhole)
    (M3 : Memref sig .tc .vmem S8x2560 .f32) (h3 : M3.IsWhole) (f1 : Bf (F := F) c M1) :
    { W : Bf (F := F) c M2 × Bf (F := F) c M3 // ∀ (f2 : Bf (F := F) c M2) (f3 : Bf (F := F) c M3) (E : Set ℕ) (Q : PUnit → sProp 𝕄),
        iprop(pt c M1 f1 ∗ pt c M2 f2 ∗ pt c M3 f3 ∗ (iprop(pt c M1 f1 ∗ pt c M2 W.1 ∗ pt c M3 W.2) -∗ Q ⟨⟩))
          ⊢ wp frame (wpE (defs₀ (F := F)) Variants.none c none) E (cc0__scores_body i M1 h1 M2 h2 M3 h3) Q } := by
  refine ⟨⟨?_, ?_⟩, fun f2 f3 E Q => ?run⟩
  case run =>
    iintro ⟨H1, H2, H3, Hk⟩
    sl_exec!
    sl_step
    iapply Hk
    isplitl [H1]; · iexact H1
    isplitl [H2]; · iexact H2
    iexact H3

end Cert.Proof.KernelIdeal

end
-- ==== Proof.KernelIdeal.Nms.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.RegionArraysS
public import Idealize.ShloMosaic.Lib.Pipeline.FrameBody
public import Idealize.ShloMosaic.Lib.Tactic
public import proofs.«01_k».proof.Proof.Gen.KernelIdeal.Loops
public import proofs.«01_k».proof.Proof.KernelIdeal.Scores

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- What one trip of the selection carries: the live scores, their row maximum, the six result rows so far. -/
abbrev Carry (F : FTy → Type) : Type :=
  FVec F S8x20000 .f32 × FVec F S8x1 .f32 × FVec F S8x200 .f32 × FVec F S8x200 .f32 × FVec F S8x200 .f32 × FVec F S8x200 .f32 × FVec F S8x200 .f32 × FVec F S8x200 .f32

/-- One trip of the selection as a function of what it carries. -/
def trip (v47 : FVec F S8x20000 .f32) (v62 : FVec F S8x1 .f32) (v65 v66 v67 v68 v71 : FVec F S8x20000 .f32) (v76 : IVec S8x20000 32) (v77 : IVec S8x200 32)
    (k : Fin k1_t1_loop.trips) (a : Carry F) : Carry F :=
  (k1_pay14 v71 a.1 (k1_pay5 v76 a.1 a.2.1) (k1_pay11 v65 v66 v67 v68 v76 a.1 a.2.1) (k1_pay12 v65 v67 v76 a.1 a.2.1) (k1_pay13 v66 v68 v76 a.1 a.2.1),
   k1_pay15 v71 a.1 (k1_pay5 v76 a.1 a.2.1) (k1_pay11 v65 v66 v67 v68 v76 a.1 a.2.1) (k1_pay12 v65 v67 v76 a.1 a.2.1) (k1_pay13 v66 v68 v76 a.1 a.2.1),
   k1_pay18 v62 v77 a.2.2.1 (Scf.iv 0#32 1#32 k) (k1_pay4 a.2.1) (k1_pay6 v65 v76 a.1 a.2.1) (k1_pay10 v47 v76 a.1 a.2.1),
   k1_pay19 v62 v77 a.2.2.2.1 (Scf.iv 0#32 1#32 k) (k1_pay4 a.2.1) (k1_pay7 v66 v76 a.1 a.2.1) (k1_pay10 v47 v76 a.1 a.2.1),
   k1_pay20 v62 v77 a.2.2.2.2.1 (Scf.iv 0#32 1#32 k) (k1_pay4 a.2.1) (k1_pay8 v67 v76 a.1 a.2.1) (k1_pay10 v47 v76 a.1 a.2.1),
   k1_pay21 v62 v77 a.2.2.2.2.2.1 (Scf.iv 0#32 1#32 k) (k1_pay4 a.2.1) (k1_pay9 v68 v76 a.1 a.2.1) (k1_pay10 v47 v76 a.1 a.2.1),
   k1_pay22 v77 a.2.1 a.2.2.2.2.2.2.1 (Scf.iv 0#32 1#32 k) (k1_pay4 a.2.1),
   k1_pay3 a.2.2.2.2.2.2.2 (k1_pay4 a.2.1) (k1_pay10 v47 v76 a.1 a.2.1) (k1_pay17 v77 (Scf.iv 0#32 1#32 k)) k1_pay23)

/-- The trip's region issues nothing: it returns `trip`. -/
theorem body_ret (M0 : Memref sig .tc .vmem S4x8x20000 .f32) (h0 : M0.IsWhole) (M1 : Memref sig .tc .vmem S4x1x20000 .f32) (h1 : M1.IsWhole) (M2 : Memref sig .tc .vmem S8x20000 .f32) (h2 : M2.IsWhole) (M3 : Memref sig .tc .vmem S8x20000 .f32) (h3 : M3.IsWhole) (M4 : Memref sig .tc .vmem S8x200 .f32) (h4 : M4.IsWhole) (M5 : Memref sig .tc .vmem S8x200 .f32) (h5 : M5.IsWhole) (M6 : Memref sig .tc .vmem S8x200 .f32) (h6 : M6.IsWhole) (M7 : Memref sig .tc .vmem S8x200 .f32) (h7 : M7.IsWhole) (M8 : Memref sig .tc .vmem S8x200 .f32) (h8 : M8.IsWhole) (M9 : Memref sig .tc .vmem S8x200 .f32) (h9 : M9.IsWhole)
    (v47 : FVec F S8x20000 .f32) (v62 : FVec F S8x1 .f32) (v65 v66 v67 v68 v71 : FVec F S8x20000 .f32) (v76 : IVec S8x20000 32) (v77 : IVec S8x200 32)
    (k : Fin k1_t1_loop.trips) (a : Carry F) :
    k1_t1_body M0 h0 M1 h1 M2 h2 M3 h3 M4 h4 M5 h5 M6 h6 M7 h7 M8 h8 M9 h9 v47 v62 v65 v66 v67 v68 v71 v76 v77 k a = .ret (trip v47 v62 v65 v66 v67 v68 v71 v76 v77 k a) := by
  rw [k1_t1_body, k1_part1_eq_skeleton, k1_part2_eq_skeleton]
  rfl

/-- What the selection's body leaves in its six results' staging buffers, with the run. -/
noncomputable def nmsRun (c : Dev nD) (M0 : Memref sig .tc .vmem S4x8x20000 .f32) (h0 : M0.IsWhole) (M1 : Memref sig .tc .vmem S4x1x20000 .f32) (h1 : M1.IsWhole) (M2 : Memref sig .tc .vmem S8x20000 .f32) (h2 : M2.IsWhole) (M3 : Memref sig .tc .vmem S8x20000 .f32) (h3 : M3.IsWhole) (M4 : Memref sig .tc .vmem S8x200 .f32) (h4 : M4.IsWhole) (M5 : Memref sig .tc .vmem S8x200 .f32) (h5 : M5.IsWhole) (M6 : Memref sig .tc .vmem S8x200 .f32) (h6 : M6.IsWhole) (M7 : Memref sig .tc .vmem S8x200 .f32) (h7 : M7.IsWhole) (M8 : Memref sig .tc .vmem S8x200 .f32) (h8 : M8.IsWhole) (M9 : Memref sig .tc .vmem S8x200 .f32) (h9 : M9.IsWhole) (f0 : Bf (F := F) c M0) (f1 : Bf (F := F) c M1) (f2 : Bf (F := F) c M2) (f3 : Bf (F := F) c M3) :
    { W : Bf (F := F) c M4 × Bf (F := F) c M5 × Bf (F := F) c M6 × Bf (F := F) c M7 × Bf (F := F) c M8 × Bf (F := F) c M9 // ∀ (f4 : Bf (F := F) c M4) (f5 : Bf (F := F) c M5) (f6 : Bf (F := F) c M6) (f7 : Bf (F := F) c M7) (f8 : Bf (F := F) c M8) (f9 : Bf (F := F) c M9) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ (iprop(pt c M0 f0 ∗ pt c M1 f1 ∗ pt c M2 f2 ∗ pt c M3 f3 ∗ pt c M4 (W.1) ∗ pt c M5 (W.2.1) ∗ pt c M6 (W.2.2.1) ∗ pt c M7 (W.2.2.2.1) ∗ pt c M8 (W.2.2.2.2.1) ∗ pt c M9 (W.2.2.2.2.2)) -∗ Q ⟨⟩))
          ⊢ wp frame (wpE (defs₀ (F := F)) Variants.none c none) E (cc1__nms_body M0 h0 M1 h1 M2 h2 M3 h3 M4 h4 M5 h5 M6 h6 M7 h7 M8 h8 M9 h9) Q } := by
  refine ⟨⟨?_, ?_, ?_, ?_, ?_, ?_⟩, fun f4 f5 f6 f7 f8 f9 E Q => ?run⟩
  case run =>
    iintro ⟨H0, H1, H2, H3, H4, H5, H6, H7, H8, H9, Hk⟩
    sl_exec!
    refine exec_loopForPure (c := (c : Thread nD τ)) (l := k1_t1_loop) (hok := k1_t1_ok) (body := k1_t1_body M0 h0 M1 h1 M2 h2 M3 h3 M4 h4 M5 h5 M6 h6 M7 h7 M8 h8 M9 h9 _ _ _ _ _ _ _ _ _) (g := trip _ _ _ _ _ _ _ _ _) (hg := fun k a => body_ret M0 h0 M1 h1 M2 h2 M3 h3 M4 h4 M5 h5 M6 h6 M7 h7 M8 h8 M9 h9 _ _ _ _ _ _ _ _ _ k a) (r := (fun a : Carry F => (a.1, a.2.1, a.2.2.1, a.2.2.2.1, a.2.2.2.2.1, a.2.2.2.2.2.1, a.2.2.2.2.2.2.1, a.2.2.2.2.2.2.2)) (Scf.fold _ _)) (hr := rfl) (h := ?_)
    beta_reduce
    istart
    iintro ⟨⟨⟨⟨⟨⟨⟨⟨⟨⟨H0, H1⟩, H2⟩, H3⟩, H4⟩, H5⟩, H6⟩, H7⟩, H8⟩, H9⟩, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

end Cert.Proof.KernelIdeal

end
-- ==== Proof.KernelIdeal.NmsRegion.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.RegionArraysS
public import Idealize.ShloMosaic.Lib.Pipeline.FrameBody
public import Idealize.ShloMosaic.Lib.Tactic
public import Idealize.ShloMosaic.Lib.VecWindow
public import Idealize.ShloMosaic.Lib.Pointwise.Tactic
public import proofs.«01_k».proof.Proof.KernelIdeal.Nms

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The second region: decoding, offsets and the selection, in one trip of the grid -/

/-- One coordinate's plane of the staged offsets, and of the staged anchors. -/
def plane (k : Fin 4) (x : S4x8x20000.Idx → F .f32) : S1x8x20000.Idx → F .f32 := fun j => x (ix3 k (j 1) (j 2))
def prior (k : Fin 4) (x : S4x1x20000.Idx → F .f32) : S1x1x20000.Idx → F .f32 := fun j => x (ix3 k 0 (j 2))

section Values
variable (x0 : S4x8x20000.Idx → F .f32) (x1 : S4x1x20000.Idx → F .f32) (x2 x3 : S8x20000.Idx → F .f32)

/-- The last offset and anchor coordinates, the centres and the width. -/
def lastOff : FVec F S8x20000 .f32 := k1_pay24 (plane 3 x0)
def lastPri : FVec F S1x20000 .f32 := k1_pay26 (prior 3 x1)
def centreX : FVec F S8x20000 .f32 := k1_pay27 (plane 0 x0) (prior 0 x1) (prior 2 x1)
def centreY : FVec F S8x20000 .f32 := k1_pay28 (plane 1 x0) (prior 1 x1) (prior 3 x1)
def width : FVec F S8x20000 .f32 := k1_pay29 (plane 2 x0) (prior 2 x1)
/-- The class offset's unit: the largest coordinate and one. -/
def unitOff : FVec F S8x1 .f32 := k1_pay36 (lastOff x0) (lastPri x1) (centreX x0 x1) (centreY x0 x1) (width x0 x1)
/-- The boxes moved by their class offset, and their areas. -/
def boxX1 : FVec F S8x20000 .f32 := k1_pay38 (lastOff x0) (lastPri x1) (centreX x0 x1) (centreY x0 x1) (width x0 x1) x3
def boxY1 : FVec F S8x20000 .f32 := k1_pay39 (lastOff x0) (lastPri x1) (centreX x0 x1) (centreY x0 x1) (width x0 x1) x3
def boxX2 : FVec F S8x20000 .f32 := k1_pay40 (lastOff x0) (lastPri x1) (centreX x0 x1) (centreY x0 x1) (width x0 x1) x3
def boxY2 : FVec F S8x20000 .f32 := k1_pay41 (lastOff x0) (lastPri x1) (centreX x0 x1) (centreY x0 x1) (width x0 x1) x3
def boxArea : FVec F S8x20000 .f32 := k1_pay42 (lastOff x0) (lastPri x1) (centreX x0 x1) (centreY x0 x1) (width x0 x1) x3
/-- The scores at the start: those over the threshold. -/
def work0 : FVec F S8x20000 .f32 := k1_pay43 x2
/-- The state before the first selection, and one selection. -/
def start : Carry F := (work0 x2, k1_pay2 (work0 x2), k1_pay1 (Scalar.ofBits .f32 0#32), k1_pay1 (Scalar.ofBits .f32 0#32), k1_pay1 (Scalar.ofBits .f32 0#32), k1_pay1 (Scalar.ofBits .f32 0#32), k1_pay1 (Scalar.ofBits .f32 0#32), k1_pay1 (Scalar.ofBits .f32 0#32))
def pick (k : Fin k1_t1_loop.trips) (a : Carry F) : Carry F :=
  trip (k1_pay35 x3) (unitOff x0 x1) (boxX1 x0 x1 x3) (boxY1 x0 x1 x3) (boxX2 x0 x1 x3) (boxY2 x0 x1 x3) (boxArea x0 x1 x3)
    (iota .tc S8x20000 32 [1] iota_S8x20000_d1_w32) (iota .tc S8x200 32 [1] iota_S8x200_d1_w32) k a
/-- The state after all selections. -/
def picked : Carry F := Scf.fold (pick x0 x1 x3) (start x2)

end Values

section Read
variable (c : Dev nD) (M0 : Memref sig .tc .vmem S4x8x20000 .f32) (f0 : Bf (F := F) c M0) (M1 : Memref sig .tc .vmem S4x1x20000 .f32) (f1 : Bf (F := F) c M1)
  (M2 : Memref sig .tc .vmem S8x20000 .f32) (f2 : Bf (F := F) c M2) (M3 : Memref sig .tc .vmem S8x20000 .f32) (f3 : Bf (F := F) c M3)

/-- A load of one plane reads that plane; a load of the whole buffer all of it. -/
theorem load_plane (k : Fin 4) (h : ∀ a, (![k.val, 0, 0] : Fin 3 → Nat) a + S1x8x20000.size a ≤ S4x8x20000.size a) :
    View.readAt (Elt F) M0.view (Rect.unit (s := S4x8x20000) ![k.val, 0, 0] S1x8x20000.size h).toLoadRect f0 = plane k (M0.view.read (Elt F) f0) := by
  funext j
  rw [View.readAt_unit _ _ _ rfl h]
  refine congrArg (View.read (Elt F) M0.view f0) (funext fun a => Fin.ext ?_)
  have h0 : (j 0).val = 0 := Nat.lt_one_iff.mp (j 0).isLt
  fin_cases a
  · show k.val + 1 * (j 0).val = k.val; omega
  · show 0 + 1 * (j 1).val = (j 1).val; omega
  · show 0 + 1 * (j 2).val = (j 2).val; omega
theorem load_prior (k : Fin 4) (h : ∀ a, (![k.val, 0, 0] : Fin 3 → Nat) a + S1x1x20000.size a ≤ S4x1x20000.size a) :
    View.readAt (Elt F) M1.view (Rect.unit (s := S4x1x20000) ![k.val, 0, 0] S1x1x20000.size h).toLoadRect f1 = prior k (M1.view.read (Elt F) f1) := by
  funext j
  rw [View.readAt_unit _ _ _ rfl h]
  refine congrArg (View.read (Elt F) M1.view f1) (funext fun a => Fin.ext ?_)
  have h0 : (j 0).val = 0 := Nat.lt_one_iff.mp (j 0).isLt
  have h1 : (j 1).val = 0 := Nat.lt_one_iff.mp (j 1).isLt
  fin_cases a
  · show k.val + 1 * (j 0).val = k.val; omega
  · show 0 + 1 * (j 1).val = 0; omega
  · show 0 + 1 * (j 2).val = (j 2).val; omega
theorem load_all : View.readAt (Elt F) M2.view (Rect.unit (s := S8x20000) ![0, 0] S8x20000.size inb_S8x20000_S8x20000_0_0).toLoadRect f2 = M2.view.read (Elt F) f2 := by
  funext j
  rw [View.readAt_unit _ _ _ rfl inb_S8x20000_S8x20000_0_0]
  refine congrArg (View.read (Elt F) M2.view f2) (funext fun a => Fin.ext ?_)
  fin_cases a
  · show 0 + 1 * (j 0).val = (j 0).val; omega
  · show 0 + 1 * (j 1).val = (j 1).val; omega

/-- The run's named values are the ones above, of what the four staging buffers read. -/
theorem run_lastOff : nmsRun.sl.r c M0 f0 = lastOff (M0.view.read (Elt F) f0) := congrArg k1_pay24 (load_plane c M0 f0 3 _)
theorem run_lastPri : nmsRun.sl.r_1 c M1 f1 = lastPri (M1.view.read (Elt F) f1) := congrArg k1_pay26 (load_prior c M1 f1 3 _)
theorem run_centreX : nmsRun.sl.r_2 c M0 M1 f0 f1 = centreX (M0.view.read (Elt F) f0) (M1.view.read (Elt F) f1) := by
  unfold nmsRun.sl.r_2 centreX
  rw [← load_plane c M0 f0 0 inb_S4x8x20000_S1x8x20000_0_0_0, ← load_prior c M1 f1 0 inb_S4x1x20000_S1x1x20000_0_0_0, ← load_prior c M1 f1 2 inb_S4x1x20000_S1x1x20000_2_0_0]
  rfl
theorem run_centreY : nmsRun.sl.r_3 c M0 M1 f0 f1 = centreY (M0.view.read (Elt F) f0) (M1.view.read (Elt F) f1) := by
  unfold nmsRun.sl.r_3 centreY
  rw [← load_plane c M0 f0 1 inb_S4x8x20000_S1x8x20000_1_0_0, ← load_prior c M1 f1 1 inb_S4x1x20000_S1x1x20000_1_0_0, ← load_prior c M1 f1 3 inb_S4x1x20000_S1x1x20000_3_0_0]
  rfl
theorem run_width : nmsRun.sl.r_4 c M0 M1 f0 f1 = width (M0.view.read (Elt F) f0) (M1.view.read (Elt F) f1) := by
  unfold nmsRun.sl.r_4 width
  rw [← load_plane c M0 f0 2 inb_S4x8x20000_S1x8x20000_2_0_0, ← load_prior c M1 f1 2 inb_S4x1x20000_S1x1x20000_2_0_0]
  rfl

/-- What the loop of the run folds is `picked`. -/
theorem run_picked : Scf.fold (trip (nmsRun.sl.r_5 c M3 f3) (nmsRun.sl.r_6 c M0 M1 f0 f1) (nmsRun.sl.r_7 c M0 M1 M3 f0 f1 f3) (nmsRun.sl.r_8 c M0 M1 M3 f0 f1 f3)
      (nmsRun.sl.r_9 c M0 M1 M3 f0 f1 f3) (nmsRun.sl.r_10 c M0 M1 M3 f0 f1 f3) (nmsRun.sl.r_11 c M0 M1 M3 f0 f1 f3) nmsRun.sl.v76 nmsRun.sl.v77)
      ((nmsRun.sl.r_12 c M2 f2, k1_pay2 (nmsRun.sl.r_12 c M2 f2), k1_pay1 nmsRun.sl.cst_36, k1_pay1 nmsRun.sl.cst_36, k1_pay1 nmsRun.sl.cst_36,
        k1_pay1 nmsRun.sl.cst_36, k1_pay1 nmsRun.sl.cst_36, k1_pay1 nmsRun.sl.cst_36) : Carry F)
    = picked (M0.view.read (Elt F) f0) (M1.view.read (Elt F) f1) (M2.view.read (Elt F) f2) (M3.view.read (Elt F) f3) := by
  unfold picked pick start nmsRun.sl.r_5 nmsRun.sl.r_6 nmsRun.sl.r_7 nmsRun.sl.r_8 nmsRun.sl.r_9 nmsRun.sl.r_10 nmsRun.sl.r_11 nmsRun.sl.r_12 work0
    unitOff boxX1 boxY1 boxX2 boxY2 boxArea nmsRun.sl.v76 nmsRun.sl.v77 nmsRun.sl.cst_36
  rw [run_lastOff, run_lastPri, run_centreX, run_centreY, run_width, load_all, load_all]

/-- A whole store leaves the staging buffer reading what was stored. -/
theorem read_store (M : Memref sig .tc .vmem S8x200 .f32) (v : S8x200.Idx → Elt F .f32) :
    M.view.read (Elt F) (M.view.writes (Elt F) M.view.junk [⟨Rect.unit (s := S8x200) ![0, 0] S8x200.size inb_S8x200_S8x200_0_0, v⟩]) = v := by
  exact (View.read_writes_full M.view _ _ _ [])

end Read

section Left
variable (c : Dev nD) (M0 : Memref sig .tc .vmem S4x8x20000 .f32) (h0 : M0.IsWhole) (M1 : Memref sig .tc .vmem S4x1x20000 .f32) (h1 : M1.IsWhole) (M2 : Memref sig .tc .vmem S8x20000 .f32) (h2 : M2.IsWhole) (M3 : Memref sig .tc .vmem S8x20000 .f32) (h3 : M3.IsWhole) (M4 : Memref sig .tc .vmem S8x200 .f32) (h4 : M4.IsWhole) (M5 : Memref sig .tc .vmem S8x200 .f32) (h5 : M5.IsWhole) (M6 : Memref sig .tc .vmem S8x200 .f32) (h6 : M6.IsWhole) (M7 : Memref sig .tc .vmem S8x200 .f32) (h7 : M7.IsWhole) (M8 : Memref sig .tc .vmem S8x200 .f32) (h8 : M8.IsWhole) (M9 : Memref sig .tc .vmem S8x200 .f32) (h9 : M9.IsWhole) (f0 : Bf (F := F) c M0) (f1 : Bf (F := F) c M1) (f2 : Bf (F := F) c M2) (f3 : Bf (F := F) c M3)

/-- What the run leaves in the six results' buffers, as it names them, -/
theorem run_left :
    (nmsRun c M0 h0 M1 h1 M2 h2 M3 h3 M4 h4 M5 h5 M6 h6 M7 h7 M8 h8 M9 h9 f0 f1 f2 f3).1 = (M4.view.writes (Elt F) M4.view.junk (nmsRun.sl.H4_1 c M0 M1 M2 M3 f0 f1 f2 f3), M5.view.writes (Elt F) M5.view.junk (nmsRun.sl.H5_1 c M0 M1 M2 M3 f0 f1 f2 f3), M6.view.writes (Elt F) M6.view.junk (nmsRun.sl.H6_1 c M0 M1 M2 M3 f0 f1 f2 f3), M7.view.writes (Elt F) M7.view.junk (nmsRun.sl.H7_1 c M0 M1 M2 M3 f0 f1 f2 f3), M8.view.writes (Elt F) M8.view.junk (nmsRun.sl.H8_1 c M0 M1 M2 M3 f0 f1 f2 f3), M9.view.writes (Elt F) M9.view.junk (nmsRun.sl.H9_1 c M0 M1 M2 M3 f0 f1 f2 f3)) := by
  rw [nmsRun]
/-- and as they read. -/
theorem run_out4 : M4.view.read (Elt F) (nmsRun c M0 h0 M1 h1 M2 h2 M3 h3 M4 h4 M5 h5 M6 h6 M7 h7 M8 h8 M9 h9 f0 f1 f2 f3).1.1 = (picked (M0.view.read (Elt F) f0) (M1.view.read (Elt F) f1) (M2.view.read (Elt F) f2) (M3.view.read (Elt F) f3)).2.2.1 :=
  (congrArg (fun W => M4.view.read (Elt F) W.1) (run_left c M0 h0 M1 h1 M2 h2 M3 h3 M4 h4 M5 h5 M6 h6 M7 h7 M8 h8 M9 h9 f0 f1 f2 f3)).trans
    ((read_store M4 _).trans (congrArg (fun a : Carry F => a.2.2.1) (run_picked c M0 f0 M1 f1 M2 f2 M3 f3)))
theorem run_out5 : M5.view.read (Elt F) (nmsRun c M0 h0 M1 h1 M2 h2 M3 h3 M4 h4 M5 h5 M6 h6 M7 h7 M8 h8 M9 h9 f0 f1 f2 f3).1.2.1 = (picked (M0.view.read (Elt F) f0) (M1.view.read (Elt F) f1) (M2.view.read (Elt F) f2) (M3.view.read (Elt F) f3)).2.2.2.1 :=
  (congrArg (fun W => M5.view.read (Elt F) W.2.1) (run_left c M0 h0 M1 h1 M2 h2 M3 h3 M4 h4 M5 h5 M6 h6 M7 h7 M8 h8 M9 h9 f0 f1 f2 f3)).trans
    ((read_store M5 _).trans (congrArg (fun a : Carry F => a.2.2.2.1) (run_picked c M0 f0 M1 f1 M2 f2 M3 f3)))
theorem run_out6 : M6.view.read (Elt F) (nmsRun c M0 h0 M1 h1 M2 h2 M3 h3 M4 h4 M5 h5 M6 h6 M7 h7 M8 h8 M9 h9 f0 f1 f2 f3).1.2.2.1 = (picked (M0.view.read (Elt F) f0) (M1.view.read (Elt F) f1) (M2.view.read (Elt F) f2) (M3.view.read (Elt F) f3)).2.2.2.2.1 :=
  (congrArg (fun W => M6.view.read (Elt F) W.2.2.1) (run_left c M0 h0 M1 h1 M2 h2 M3 h3 M4 h4 M5 h5 M6 h6 M7 h7 M8 h8 M9 h9 f0 f1 f2 f3)).trans
    ((read_store M6 _).trans (congrArg (fun a : Carry F => a.2.2.2.2.1) (run_picked c M0 f0 M1 f1 M2 f2 M3 f3)))
theorem run_out7 : M7.view.read (Elt F) (nmsRun c M0 h0 M1 h1 M2 h2 M3 h3 M4 h4 M5 h5 M6 h6 M7 h7 M8 h8 M9 h9 f0 f1 f2 f3).1.2.2.2.1 = (picked (M0.view.read (Elt F) f0) (M1.view.read (Elt F) f1) (M2.view.read (Elt F) f2) (M3.view.read (Elt F) f3)).2.2.2.2.2.1 :=
  (congrArg (fun W => M7.view.read (Elt F) W.2.2.2.1) (run_left c M0 h0 M1 h1 M2 h2 M3 h3 M4 h4 M5 h5 M6 h6 M7 h7 M8 h8 M9 h9 f0 f1 f2 f3)).trans
    ((read_store M7 _).trans (congrArg (fun a : Carry F => a.2.2.2.2.2.1) (run_picked c M0 f0 M1 f1 M2 f2 M3 f3)))
theorem run_out8 : M8.view.read (Elt F) (nmsRun c M0 h0 M1 h1 M2 h2 M3 h3 M4 h4 M5 h5 M6 h6 M7 h7 M8 h8 M9 h9 f0 f1 f2 f3).1.2.2.2.2.1 = (picked (M0.view.read (Elt F) f0) (M1.view.read (Elt F) f1) (M2.view.read (Elt F) f2) (M3.view.read (Elt F) f3)).2.2.2.2.2.2.1 :=
  (congrArg (fun W => M8.view.read (Elt F) W.2.2.2.2.1) (run_left c M0 h0 M1 h1 M2 h2 M3 h3 M4 h4 M5 h5 M6 h6 M7 h7 M8 h8 M9 h9 f0 f1 f2 f3)).trans
    ((read_store M8 _).trans (congrArg (fun a : Carry F => a.2.2.2.2.2.2.1) (run_picked c M0 f0 M1 f1 M2 f2 M3 f3)))
theorem run_out9 : M9.view.read (Elt F) (nmsRun c M0 h0 M1 h1 M2 h2 M3 h3 M4 h4 M5 h5 M6 h6 M7 h7 M8 h8 M9 h9 f0 f1 f2 f3).1.2.2.2.2.2 = (picked (M0.view.read (Elt F) f0) (M1.view.read (Elt F) f1) (M2.view.read (Elt F) f2) (M3.view.read (Elt F) f3)).2.2.2.2.2.2.2 :=
  (congrArg (fun W => M9.view.read (Elt F) W.2.2.2.2.2) (run_left c M0 h0 M1 h1 M2 h2 M3 h3 M4 h4 M5 h5 M6 h6 M7 h7 M8 h8 M9 h9 f0 f1 f2 f3)).trans
    ((read_store M9 _).trans (congrArg (fun a : Carry F => a.2.2.2.2.2.2.2) (run_picked c M0 f0 M1 f1 M2 f2 M3 f3)))

end Left

set_option maxHeartbeats 2000000 in
/-- The body on its ten staging buffers: the six results are the parts of `picked`. -/
theorem sound_body1 (c : Dev nD) (E : Set ℕ) (M0 : Memref sig .tc .vmem S4x8x20000 .f32) (h0 : M0.IsWhole) (M1 : Memref sig .tc .vmem S4x1x20000 .f32) (h1 : M1.IsWhole) (M2 : Memref sig .tc .vmem S8x20000 .f32) (h2 : M2.IsWhole) (M3 : Memref sig .tc .vmem S8x20000 .f32) (h3 : M3.IsWhole) (M4 : Memref sig .tc .vmem S8x200 .f32) (h4 : M4.IsWhole) (M5 : Memref sig .tc .vmem S8x200 .f32) (h5 : M5.IsWhole) (M6 : Memref sig .tc .vmem S8x200 .f32) (h6 : M6.IsWhole) (M7 : Memref sig .tc .vmem S8x200 .f32) (h7 : M7.IsWhole) (M8 : Memref sig .tc .vmem S8x200 .f32) (h8 : M8.IsWhole) (M9 : Memref sig .tc .vmem S8x200 .f32) (h9 : M9.IsWhole)
    (X0 : S4x8x20000.Idx → Elt F .f32) (X1 : S4x1x20000.Idx → Elt F .f32) (X2 X3 : S8x20000.Idx → Elt F .f32) (X4 X5 X6 X7 X8 X9 : S8x200.Idx → Elt F .f32)
    (K : PUnit → sProp 𝕄) :
    iprop((owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9)
          ∗ (iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare (picked X0 X1 X2 X3).2.2.1 ∗ owns (c : Thread nD τ) M5 fullShare (picked X0 X1 X2 X3).2.2.2.1 ∗ owns (c : Thread nD τ) M6 fullShare (picked X0 X1 X2 X3).2.2.2.2.1 ∗ owns (c : Thread nD τ) M7 fullShare (picked X0 X1 X2 X3).2.2.2.2.2.1 ∗ owns (c : Thread nD τ) M8 fullShare (picked X0 X1 X2 X3).2.2.2.2.2.2.1 ∗ owns (c : Thread nD τ) M9 fullShare (picked X0 X1 X2 X3).2.2.2.2.2.2.2) -∗ K ⟨⟩))
      ⊢ wp frame (wpE (defs₀ (F := F)) Variants.none c none) E (cc1__nms_body M0 h0 M1 h1 M2 h2 M3 h3 M4 h4 M5 h5 M6 h6 M7 h7 M8 h8 M9 h9) K := by
  unfold owns
  rw [h0.set_eq_univ, h1.set_eq_univ, h2.set_eq_univ, h3.set_eq_univ, h4.set_eq_univ, h5.set_eq_univ, h6.set_eq_univ, h7.set_eq_univ, h8.set_eq_univ, h9.set_eq_univ]
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, Hk⟩
  subst e0 e1 e2 e3
  iapply ((nmsRun c M0 h0 M1 h1 M2 h2 M3 h3 M4 h4 M5 h5 M6 h6 M7 h7 M8 h8 M9 h9 f0 f1 f2 f3).2 f4 f5 f6 f7 f8 f9 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists (nmsRun c M0 h0 M1 h1 M2 h2 M3 h3 M4 h4 M5 h5 M6 h6 M7 h7 M8 h8 M9 h9 f0 f1 f2 f3).1.1; isplitr; · ipureintro; exact run_out4 c M0 h0 M1 h1 M2 h2 M3 h3 M4 h4 M5 h5 M6 h6 M7 h7 M8 h8 M9 h9 f0 f1 f2 f3
    iexact H4
  isplitl [H5]
  · iexists (nmsRun c M0 h0 M1 h1 M2 h2 M3 h3 M4 h4 M5 h5 M6 h6 M7 h7 M8 h8 M9 h9 f0 f1 f2 f3).1.2.1; isplitr; · ipureintro; exact run_out5 c M0 h0 M1 h1 M2 h2 M3 h3 M4 h4 M5 h5 M6 h6 M7 h7 M8 h8 M9 h9 f0 f1 f2 f3
    iexact H5
  isplitl [H6]
  · iexists (nmsRun c M0 h0 M1 h1 M2 h2 M3 h3 M4 h4 M5 h5 M6 h6 M7 h7 M8 h8 M9 h9 f0 f1 f2 f3).1.2.2.1; isplitr; · ipureintro; exact run_out6 c M0 h0 M1 h1 M2 h2 M3 h3 M4 h4 M5 h5 M6 h6 M7 h7 M8 h8 M9 h9 f0 f1 f2 f3
    iexact H6
  isplitl [H7]
  · iexists (nmsRun c M0 h0 M1 h1 M2 h2 M3 h3 M4 h4 M5 h5 M6 h6 M7 h7 M8 h8 M9 h9 f0 f1 f2 f3).1.2.2.2.1; isplitr; · ipureintro; exact run_out7 c M0 h0 M1 h1 M2 h2 M3 h3 M4 h4 M5 h5 M6 h6 M7 h7 M8 h8 M9 h9 f0 f1 f2 f3
    iexact H7
  isplitl [H8]
  · iexists (nmsRun c M0 h0 M1 h1 M2 h2 M3 h3 M4 h4 M5 h5 M6 h6 M7 h7 M8 h8 M9 h9 f0 f1 f2 f3).1.2.2.2.2.1; isplitr; · ipureintro; exact run_out8 c M0 h0 M1 h1 M2 h2 M3 h3 M4 h4 M5 h5 M6 h6 M7 h7 M8 h8 M9 h9 f0 f1 f2 f3
    iexact H8
  · iexists (nmsRun c M0 h0 M1 h1 M2 h2 M3 h3 M4 h4 M5 h5 M6 h6 M7 h7 M8 h8 M9 h9 f0 f1 f2 f3).1.2.2.2.2.2; isplitr; · ipureintro; exact run_out9 c M0 h0 M1 h1 M2 h2 M3 h3 M4 h4 M5 h5 M6 h6 M7 h7 M8 h8 M9 h9 f0 f1 f2 f3
    iexact H9

/-! ### The proof data -/

variable (V : Dev nD → Valuation τ sig (Elt F))

/-- The region's operands as it finds them, -/
def offs (c : Dev nD) : S4x8x20000.Idx → F .f32 := V c main_v1
def pris (c : Dev nD) : S4x1x20000.Idx → F .f32 := V c main_v3
def scos (c : Dev nD) : S8x20000.Idx → F .f32 := V c main_v4_0
def clss (c : Dev nD) : S8x20000.Idx → F .f32 := V c main_v4_1
/-- and the state its selections end in. -/
def ends (c : Dev nD) : Carry F := picked (offs V c) (pris V c) (scos V c) (clss V c)

/-- The proof data of the second region. -/
def dat1 (c : Dev nD) : Dat τ (Elt F) Unit ℕ (UR sig nD τ) ℕ cfg1 c where
  A w := V c (Proc.devRef .tc (Pipeline.arrRef cfg1.spec w))
  after w _ := match w with
    | ⟨0, _⟩ => offs V c
    | ⟨1, _⟩ => pris V c
    | ⟨2, _⟩ => scos V c
    | ⟨3, _⟩ => clss V c
    | ⟨4, _⟩ => (ends V c).2.2.1
    | ⟨5, _⟩ => (ends V c).2.2.2.1
    | ⟨6, _⟩ => (ends V c).2.2.2.2.1
    | ⟨7, _⟩ => (ends V c).2.2.2.2.2.1
    | ⟨8, _⟩ => (ends V c).2.2.2.2.2.2.1
    | ⟨9, _⟩ => (ends V c).2.2.2.2.2.2.2
  Φ _ := Pipeline.scopedRest cfg1.spec c
  q _ := fullShare
  owed _ := 0

/-- A whole window's block reads the array, -/
theorem blk_whole {s : Shape} {e : EltTy} {cs : CoreSpace} (arr : Memref sig .tc .hbm s e) (o sy : Bool) (st : Memref sig .tc (.core cs) ⟨s.rank, s.size⟩ e) (sm : DmaSem sig)
    (ha : arr.IsWhole) (hs : st.IsWhole) (t : Fin Pipeline.Grid.none.N) (f) :
    ((Window.whole arr o sy st sm ha hs).blk t).view.read (Elt F) f = arr.view.read (Elt F) f := by
  funext y
  show arr.view.read (Elt F) f (((Window.whole arr o sy st sm ha hs).rect t).emb y) = arr.view.read (Elt F) f y
  refine congrArg _ (funext fun a => Fin.ext ?_)
  show 0 * s.size a + 1 * (y a).val = (y a).val
  omega
/-- and its fetch fills the staging buffer whole. -/
theorem fill_whole {s : Shape} {e : EltTy} {cs : CoreSpace} (arr : Memref sig .tc .hbm s e) (o sy : Bool) (st : Memref sig .tc (.core cs) ⟨s.rank, s.size⟩ e) (sm : DmaSem sig)
    (ha : arr.IsWhole) (hs : st.IsWhole) (i : Pipeline.Grid.none.Coords) {α : Type} (d g : s.Idx → α) :
    (Window.whole arr o sy st sm ha hs).fill i d g = g := by
  funext j
  have hm : (Window.whole arr o sy st sm ha hs).moved i j = true := ((Window.whole arr o sy st sm ha hs).moved_iff _ j).mpr fun a => (j a).isLt
  unfold Window.fill; rw [dif_pos hm]

theorem before1_0 (c : Dev nD) (t : Fin cfg1.N) (d) : (dat1 V c).before (0 : Fin 10) t d = offs V c := by
  unfold Dat.before; rw [if_pos (fetch1_0 t)]
  show win1_0.fill (grid1.coords t) d ((win1_0.blk t).view.read (Elt F) (offs V c)) = _
  rw [blk_whole]; exact fill_whole _ _ _ _ _ _ _ _ d (offs V c)
theorem before1_1 (c : Dev nD) (t : Fin cfg1.N) (d) : (dat1 V c).before (1 : Fin 10) t d = pris V c := by
  unfold Dat.before; rw [if_pos (fetch1_1 t)]
  show win1_1.fill (grid1.coords t) d ((win1_1.blk t).view.read (Elt F) (pris V c)) = _
  rw [blk_whole]; exact fill_whole _ _ _ _ _ _ _ _ d (pris V c)
theorem before1_2 (c : Dev nD) (t : Fin cfg1.N) (d) : (dat1 V c).before (2 : Fin 10) t d = scos V c := by
  unfold Dat.before; rw [if_pos (fetch1_2 t)]
  show win1_2.fill (grid1.coords t) d ((win1_2.blk t).view.read (Elt F) (scos V c)) = _
  rw [blk_whole]; exact fill_whole _ _ _ _ _ _ _ _ d (scos V c)
theorem before1_3 (c : Dev nD) (t : Fin cfg1.N) (d) : (dat1 V c).before (3 : Fin 10) t d = clss V c := by
  unfold Dat.before; rw [if_pos (fetch1_3 t)]
  show win1_3.fill (grid1.coords t) d ((win1_3.blk t).view.read (Elt F) (clss V c)) = _
  rw [blk_whole]; exact fill_whole _ _ _ _ _ _ _ _ d (clss V c)

set_option maxHeartbeats 2000000 in
/-- The second region's body obligation. -/
theorem body_obligation1 (c : Dev nD) : BodyObligationLoose (dat1 V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before1_0 V c t d0, before1_1 V c t d1, before1_2 V c t d2, before1_3 V c t d3]
  iapply (sound_body1 (F := F) c Set.univ (win1_0.stage (cfg1.slots t 0)) (hstage1_0 0) (win1_1.stage (cfg1.slots t 1)) (hstage1_1 0) (win1_2.stage (cfg1.slots t 2)) (hstage1_2 0) (win1_3.stage (cfg1.slots t 3)) (hstage1_3 0) (win1_4.stage (cfg1.slots t 4)) (hstage1_4 0) (win1_5.stage (cfg1.slots t 5)) (hstage1_5 0) (win1_6.stage (cfg1.slots t 6)) (hstage1_6 0) (win1_7.stage (cfg1.slots t 7)) (hstage1_7 0) (win1_8.stage (cfg1.slots t 8)) (hstage1_8 0) (win1_9.stage (cfg1.slots t 9)) (hstage1_9 0)
    (offs V c) (pris V c) (scos V c) (clss V c) _ _ _ _ _ _ _)
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.Proof.KernelIdeal
end
-- ==== Proof.KernelIdeal.Lanes.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.RegionArraysS
public import Idealize.ShloMosaic.Lib.Pipeline.FrameBody
public import Idealize.ShloMosaic.Lib.Tactic
public import Idealize.ShloMosaic.Lib.VecWindow
public import Idealize.ShloMosaic.Lib.Pipeline.Value
public import Idealize.ShloMosaic.Lib.Pointwise.Tactic
public import proofs.«01_k».proof.Proof.KernelIdeal.Scores

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The float pattern of a small whole number. -/
def word (n : ℕ) : BitVec 32 := if n = 0 then 0#32 else BitVec.ofNat 32 ((126 + n.log2) * 2 ^ 23 + n * 2 ^ (23 - n.log2))

/-- One class looked at: `n` classes of a lane are behind, `p` is the best of them (its class, counted from 0, and its logit). -/
def better (x : Fin 81 → F .f32) (n : ℕ) (p : F .f32 × F .f32) : F .f32 × F .f32 :=
  (Scalar.select (FloatOps.cmpf .ogt (x (Fin.ofNat 81 (n + 2))) p.2) (Scalar.ofBits .f32 (word (n + 1))) p.1,
    Scalar.select (FloatOps.cmpf .ogt (x (Fin.ofNat 81 (n + 2))) p.2) (x (Fin.ofNat 81 (n + 2))) p.2)

/-- `m` further classes of a lane looked at after `n`. -/
def bestFrom (x : Fin 81 → F .f32) (n : ℕ) : ℕ → F .f32 × F .f32 → F .f32 × F .f32
  | 0, p => p
  | m + 1, p => better x (n + m) (bestFrom x n m p)

theorem bestFrom_add (x : Fin 81 → F .f32) (n m k : ℕ) (p : F .f32 × F .f32) :
    bestFrom x (n + m) k (bestFrom x n m p) = bestFrom x n (m + k) p := by
  induction k with
  | zero => rfl
  | succ k ih => show better _ _ _ = better _ _ _; rw [ih, Nat.add_assoc]; rfl

/-- The best of a lane's 80 classes of objects. -/
def best (x : Fin 81 → F .f32) : F .f32 × F .f32 := bestFrom x 0 79 (Scalar.ofBits .f32 (word 0), x (Fin.ofNat 81 1))

/-- A lane's largest logit. -/
def top (x : Fin 81 → F .f32) : F .f32 := FloatOps.maximumf (best x).2 (x (Fin.ofNat 81 0))

/-- `m` further exponentials of a lane added to `a` after `n`, each logit less `t`. -/
def zFrom (x : Fin 81 → F .f32) (t : F .f32) (n : ℕ) : ℕ → F .f32 → F .f32
  | 0, a => a
  | m + 1, a => FloatOps.addf (zFrom x t n m a) (FloatOps.exp (FloatOps.subf (x (Fin.ofNat 81 (n + m))) t))

theorem zFrom_add (x : Fin 81 → F .f32) (t : F .f32) (n m k : ℕ) (a : F .f32) :
    zFrom x t (n + m) k (zFrom x t n m a) = zFrom x t n (m + k) a := by
  induction k with
  | zero => rfl
  | succ k ih => show FloatOps.addf _ _ = FloatOps.addf _ _; rw [ih, Nat.add_assoc]; rfl

/-- A lane's score and its class. -/
def laneScore (x : Fin 81 → F .f32) : F .f32 :=
  FloatOps.divf (FloatOps.exp (FloatOps.subf (best x).2 (top x))) (zFrom x (top x) 0 81 (Scalar.ofBits .f32 0x00000000#32))
def laneCls (x : Fin 81 → F .f32) : F .f32 := (best x).1

theorem inbK (k : Fin 81) : ∀ a : Fin S81x8x2560.rank, (![k.val, 0, 0] : Fin 3 → ℕ) a + S1x8x2560.size a ≤ S81x8x2560.size a := by
  intro a; have := k.isLt; fin_cases a <;> simp [S1x8x2560, S81x8x2560]

/-- A lane of a block as the body reads it. -/
def laneAt {c : Dev nD} {M : Memref sig .tc .vmem S81x8x2560 .f32} (f : Bf (F := F) c M) (i : S8x2560.Idx) : Fin 81 → F .f32 := fun k =>
  shapeCast S8x2560 (View.readAt (Elt F) M.view (Rect.unit (s := S81x8x2560) ![k.val, 0, 0] S1x8x2560.size (inbK k)).toLoadRect f) shapeCasts_S1x8x2560_S8x2560 i

theorem laneAt_eq {c : Dev nD} {M : Memref sig .tc .vmem S81x8x2560 .f32} (f : Bf (F := F) c M) (i : S8x2560.Idx) :
    laneAt f i = fun k => M.view.read (Elt F) f (ix3 k (i 0) (i 1)) := by
  funext k
  unfold laneAt
  rw [View.readAt_unit _ _ _ rfl (inbK k)]
  refine (Idealize.ShloMosaic.shapeCast_dropUnit_apply ![8, 2560] _ _ i).trans ?_
  refine congrArg (View.read (Elt F) M.view f) (funext fun a => Fin.ext ?_)
  fin_cases a
  · show k.val + 0 = k.val; rfl
  · show 0 + 1 * (i 0).val = (i 0).val; omega
  · show 0 + 1 * (i 1).val = (i 1).val; omega

variable (c : Dev nD) (M1 : Memref sig .tc .vmem S81x8x2560 .f32) (f1 : Bf (F := F) c M1) (j : S8x2560.Idx)

/-- The run's named values, lane by lane: the first fourteen parts go through the classes, the rest add up the exponentials. -/
theorem parts_best (x : Fin 81 → F .f32) (hx : x = laneAt f1 j) :
    (scoresRun.sl.r c M1 f1 j, scoresRun.sl.r_1 c M1 f1 j) = bestFrom x 0 5 (Scalar.ofBits .f32 (word 0), x (Fin.ofNat 81 1)) ∧
      (scoresRun.sl.r_2 c M1 f1 j, scoresRun.sl.r_3 c M1 f1 j) = bestFrom x 5 6 (scoresRun.sl.r c M1 f1 j, scoresRun.sl.r_1 c M1 f1 j) ∧
      (scoresRun.sl.r_4 c M1 f1 j, scoresRun.sl.r_5 c M1 f1 j) = bestFrom x 11 6 (scoresRun.sl.r_2 c M1 f1 j, scoresRun.sl.r_3 c M1 f1 j) ∧
      (scoresRun.sl.r_6 c M1 f1 j, scoresRun.sl.r_7 c M1 f1 j) = bestFrom x 17 6 (scoresRun.sl.r_4 c M1 f1 j, scoresRun.sl.r_5 c M1 f1 j) ∧
      (scoresRun.sl.r_8 c M1 f1 j, scoresRun.sl.r_9 c M1 f1 j) = bestFrom x 23 6 (scoresRun.sl.r_6 c M1 f1 j, scoresRun.sl.r_7 c M1 f1 j) ∧
      (scoresRun.sl.r_10 c M1 f1 j, scoresRun.sl.r_11 c M1 f1 j) = bestFrom x 29 6 (scoresRun.sl.r_8 c M1 f1 j, scoresRun.sl.r_9 c M1 f1 j) ∧
      (scoresRun.sl.r_12 c M1 f1 j, scoresRun.sl.r_13 c M1 f1 j) = bestFrom x 35 6 (scoresRun.sl.r_10 c M1 f1 j, scoresRun.sl.r_11 c M1 f1 j) ∧
      (scoresRun.sl.r_14 c M1 f1 j, scoresRun.sl.r_15 c M1 f1 j) = bestFrom x 41 6 (scoresRun.sl.r_12 c M1 f1 j, scoresRun.sl.r_13 c M1 f1 j) ∧
      (scoresRun.sl.r_16 c M1 f1 j, scoresRun.sl.r_17 c M1 f1 j) = bestFrom x 47 6 (scoresRun.sl.r_14 c M1 f1 j, scoresRun.sl.r_15 c M1 f1 j) ∧
      (scoresRun.sl.r_18 c M1 f1 j, scoresRun.sl.r_19 c M1 f1 j) = bestFrom x 53 6 (scoresRun.sl.r_16 c M1 f1 j, scoresRun.sl.r_17 c M1 f1 j) ∧
      (scoresRun.sl.r_20 c M1 f1 j, scoresRun.sl.r_21 c M1 f1 j) = bestFrom x 59 6 (scoresRun.sl.r_18 c M1 f1 j, scoresRun.sl.r_19 c M1 f1 j) ∧
      (scoresRun.sl.r_22 c M1 f1 j, scoresRun.sl.r_23 c M1 f1 j) = bestFrom x 65 6 (scoresRun.sl.r_20 c M1 f1 j, scoresRun.sl.r_21 c M1 f1 j) ∧
      (scoresRun.sl.r_24 c M1 f1 j, scoresRun.sl.r_25 c M1 f1 j) = bestFrom x 71 6 (scoresRun.sl.r_22 c M1 f1 j, scoresRun.sl.r_23 c M1 f1 j) ∧
      (scoresRun.sl.r_26 c M1 f1 j, scoresRun.sl.r_27 c M1 f1 j) = bestFrom x 77 2 (scoresRun.sl.r_24 c M1 f1 j, scoresRun.sl.r_25 c M1 f1 j) ∧
      scoresRun.sl.r_28 c M1 f1 j = FloatOps.maximumf (scoresRun.sl.r_27 c M1 f1 j) (x (Fin.ofNat 81 0)) := by
  subst hx
  refine ⟨rfl, rfl, rfl, rfl, rfl, rfl, rfl, rfl, rfl, rfl, rfl, rfl, rfl, rfl, rfl⟩

theorem parts_sum (x : Fin 81 → F .f32) (hx : x = laneAt f1 j) :
    scoresRun.sl.r_29 c M1 f1 j = zFrom x (scoresRun.sl.r_28 c M1 f1 j) 0 4 (Scalar.ofBits .f32 0x00000000#32) ∧
      scoresRun.sl.r_30 c M1 f1 j = zFrom x (scoresRun.sl.r_28 c M1 f1 j) 4 7 (scoresRun.sl.r_29 c M1 f1 j) ∧
      scoresRun.sl.r_32 c M1 f1 j = zFrom x (scoresRun.sl.r_28 c M1 f1 j) 11 8 (scoresRun.sl.r_30 c M1 f1 j) ∧
      scoresRun.sl.r_33 c M1 f1 j = zFrom x (scoresRun.sl.r_28 c M1 f1 j) 19 7 (scoresRun.sl.r_32 c M1 f1 j) ∧
      scoresRun.sl.r_35 c M1 f1 j = zFrom x (scoresRun.sl.r_28 c M1 f1 j) 26 8 (scoresRun.sl.r_33 c M1 f1 j) ∧
      scoresRun.sl.r_36 c M1 f1 j = zFrom x (scoresRun.sl.r_28 c M1 f1 j) 34 7 (scoresRun.sl.r_35 c M1 f1 j) ∧
      scoresRun.sl.r_38 c M1 f1 j = zFrom x (scoresRun.sl.r_28 c M1 f1 j) 41 8 (scoresRun.sl.r_36 c M1 f1 j) ∧
      scoresRun.sl.r_39 c M1 f1 j = zFrom x (scoresRun.sl.r_28 c M1 f1 j) 49 7 (scoresRun.sl.r_38 c M1 f1 j) ∧
      scoresRun.sl.r_41 c M1 f1 j = zFrom x (scoresRun.sl.r_28 c M1 f1 j) 56 8 (scoresRun.sl.r_39 c M1 f1 j) ∧
      scoresRun.sl.r_42 c M1 f1 j = zFrom x (scoresRun.sl.r_28 c M1 f1 j) 64 7 (scoresRun.sl.r_41 c M1 f1 j) ∧
      scoresRun.sl.r_44 c M1 f1 j = zFrom x (scoresRun.sl.r_28 c M1 f1 j) 71 8 (scoresRun.sl.r_42 c M1 f1 j) := by
  subst hx
  refine ⟨rfl, rfl, rfl, rfl, rfl, rfl, rfl, rfl, rfl, rfl, rfl⟩

theorem parts_end (x : Fin 81 → F .f32) (hx : x = laneAt f1 j) :
    scoresRun.sl.r_26 c M1 f1 j = laneCls x ∧ scoresRun.sl.r_27 c M1 f1 j = (best x).2 ∧ scoresRun.sl.r_28 c M1 f1 j = top x ∧
      scoresRun.sl.r_44 c M1 f1 j = zFrom x (top x) 0 79 (Scalar.ofBits .f32 0x00000000#32) := by
  have h : (scoresRun.sl.r_26 c M1 f1 j, scoresRun.sl.r_27 c M1 f1 j) = best x := by
    obtain ⟨e0, e1, e2, e3, e4, e5, e6, e7, e8, e9, e10, e11, e12, e13, -⟩ := parts_best c M1 f1 j x hx
    rw [e13, e12, e11, e10, e9, e8, e7, e6, e5, e4, e3, e2, e1, e0]
    simp only [bestFrom_add x 0 5, bestFrom_add x 0 11, bestFrom_add x 0 17, bestFrom_add x 0 23, bestFrom_add x 0 29, bestFrom_add x 0 35,
      bestFrom_add x 0 41, bestFrom_add x 0 47, bestFrom_add x 0 53, bestFrom_add x 0 59, bestFrom_add x 0 65, bestFrom_add x 0 71, bestFrom_add x 0 77]
    rfl
  have h2 : scoresRun.sl.r_27 c M1 f1 j = (best x).2 := congrArg Prod.snd h
  have h3 : scoresRun.sl.r_28 c M1 f1 j = top x := by
    obtain ⟨-, -, -, -, -, -, -, -, -, -, -, -, -, -, e⟩ := parts_best c M1 f1 j x hx
    rw [e, h2]; rfl
  refine ⟨congrArg Prod.fst h, h2, h3, ?_⟩
  have hz := parts_sum c M1 f1 j x hx
  rw [h3] at hz
  obtain ⟨e0, e1, e2, e3, e4, e5, e6, e7, e8, e9, e10⟩ := hz
  rw [e10, e9, e8, e7, e6, e5, e4, e3, e2, e1, e0]
  generalize top x = t
  have a := fun n m k => zFrom_add x t 0 n m k
  simp only [Nat.zero_add] at a
  simp only [a]

/-- The body leaves each lane's score and class. -/
theorem run_score (i : grid0.Coords) (h1 : M1.IsWhole) (M2 : Memref sig .tc .vmem S8x2560 .f32) (h2 : M2.IsWhole)
    (M3 : Memref sig .tc .vmem S8x2560 .f32) (h3 : M3.IsWhole) :
    M2.view.read (Elt F) (scoresRun c i M1 h1 M2 h2 M3 h3 f1).1.1 = fun j => laneScore (laneAt f1 j) := by
  have e : (scoresRun c i M1 h1 M2 h2 M3 h3 f1).1.1 = M2.view.writes (Elt F) M2.view.junk (scoresRun.sl.H2_1 c M1 f1) := by rw [scoresRun]
  rw [e, scoresRun.sl.H2_1]
  refine (View.read_writes_full M2.view _ _ _ []).trans ?_
  funext j
  obtain ⟨-, e1, e2, e3⟩ := parts_end c M1 f1 j _ rfl
  have : scoresRun.sl.r_44 c M1 f1 j = _ := e3
  show FloatOps.divf (FloatOps.exp (FloatOps.subf (scoresRun.sl.r_27 c M1 f1 j) (scoresRun.sl.r_28 c M1 f1 j)))
    (zFrom (laneAt f1 j) (scoresRun.sl.r_28 c M1 f1 j) 79 2 (scoresRun.sl.r_44 c M1 f1 j)) = _
  rw [e1, e2, e3]
  have a := zFrom_add (laneAt f1 j) (top (laneAt f1 j)) 0 79 2 (Scalar.ofBits .f32 0x00000000#32)
  rw [Nat.zero_add] at a
  rw [a]; rfl

theorem run_cls (i : grid0.Coords) (h1 : M1.IsWhole) (M2 : Memref sig .tc .vmem S8x2560 .f32) (h2 : M2.IsWhole)
    (M3 : Memref sig .tc .vmem S8x2560 .f32) (h3 : M3.IsWhole) :
    M3.view.read (Elt F) (scoresRun c i M1 h1 M2 h2 M3 h3 f1).1.2 = fun j => laneCls (laneAt f1 j) := by
  have e : (scoresRun c i M1 h1 M2 h2 M3 h3 f1).1.2 = M3.view.writes (Elt F) M3.view.junk (scoresRun.sl.H3_1 c M1 f1) := by rw [scoresRun]
  rw [e, scoresRun.sl.H3_1]
  refine (View.read_writes_full M3.view _ _ _ []).trans ?_
  funext j
  exact (parts_end c M1 f1 j _ rfl).1

end Cert.Proof.KernelIdeal

end
-- ==== Proof.KernelIdeal.ScoresRegion.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.RegionArraysS
public import Idealize.ShloMosaic.Lib.Pipeline.FrameBody
public import Idealize.ShloMosaic.Lib.Tactic
public import Idealize.ShloMosaic.Lib.VecWindow
public import Idealize.ShloMosaic.Lib.Pointwise.Tactic
public import proofs.«01_k».proof.Proof.KernelIdeal.Lanes

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The first region: scores and classes, block by block

The proof data of the first region are stated over any contents `V` of the core's buffers at its entry. -/

variable (V : Dev nD → Valuation τ sig (Elt F))

/-- The logits laid out by class, as the region finds them. -/
def logits (c : Dev nD) : S81x8x20000.Idx → F .f32 := V c main_v0

/-- The 81 logits of one anchor. -/
def lane (x : S81x8x20000.Idx → F .f32) (p : S8x20000.Idx) : Fin 81 → F .f32 := fun k => x (ix3 k (p 0) (p 1))

/-- The scores and classes of all anchors: what the two result arrays end holding. -/
def scoreOf (x : S81x8x20000.Idx → F .f32) : S8x20000.Idx → F .f32 := fun p => laneScore (lane x p)
def clsOf (x : S81x8x20000.Idx → F .f32) : S8x20000.Idx → F .f32 := fun p => laneCls (lane x p)

/-- The block of logits the fetch at point `t` moves, -/
def xblk (c : Dev nD) (t : Fin cfg0.N) : (win0_0.xblock (grid0.coords t)).Idx → Elt F .f32 :=
  (win0_0.blk t).view.read (Elt F) (logits V c)
/-- and the blocks of scores and classes the write-backs move. -/
def sblk (c : Dev nD) (t : Fin cfg0.N) : (win0_1.xblock (grid0.coords t)).Idx → Elt F .f32 :=
  (win0_1.blk t).view.read (Elt F) (scoreOf (logits V c))
def kblk (c : Dev nD) (t : Fin cfg0.N) : (win0_2.xblock (grid0.coords t)).Idx → Elt F .f32 :=
  (win0_2.blk t).view.read (Elt F) (clsOf (logits V c))

/-- The proof data of the first region. -/
def dat0 (c : Dev nD) : Dat τ (Elt F) Unit ℕ (UR sig nD τ) ℕ cfg0 c where
  A w := V c (Proc.devRef .tc (Pipeline.arrRef cfg0.spec w))
  after w t := match w with
    | ⟨0, _⟩ => win0_0.fill (grid0.coords t) (fun _ => Scalar.ofBits .f32 0#32) (xblk V c t)
    | ⟨1, _⟩ => win0_1.fill (grid0.coords t) (fun _ => Scalar.ofBits .f32 0#32) (sblk V c t)
    | ⟨2, _⟩ => win0_2.fill (grid0.coords t) (fun _ => Scalar.ofBits .f32 0#32) (kblk V c t)
  Φ _ := Pipeline.scopedRest cfg0.spec c
  q _ := fullShare
  owed _ := 0

theorem before0_0 (c : Dev nD) (t : Fin cfg0.N) (d) :
    (dat0 V c).before (0 : Fin 3) t d = win0_0.fill (grid0.coords t) d (xblk V c t) := by
  unfold Dat.before; rw [if_pos (fetch0_0 t)]; rfl

/-- A lane of the staged logits inside the array is the anchor's lane of the whole array. -/
theorem lane_fill (x : S81x8x20000.Idx → F .f32) (t : Fin cfg0.N) (d : S81x8x2560.Idx → F .f32) (j : S8x2560.Idx)
    (hj : win0_1.moved (grid0.coords t) j = true) (k : Fin 81) :
    win0_0.fill (grid0.coords t) d ((win0_0.blk t).view.read (Elt F) x) (ix3 k (j 0) (j 1))
      = lane x ((win0_1.rect t).emb fun a => ⟨(j a).val, (win0_1.moved_iff _ j).mp hj a⟩) k := by
  have hm := (win0_1.moved_iff _ j).mp hj
  have hm0 : win0_0.moved (grid0.coords t) (ix3 k (j 0) (j 1)) = true := by
    rw [Window.moved_iff]
    intro a
    fin_cases a
    · exact k.isLt
    · exact hm 0
    · exact hm 1
  unfold Window.fill
  rw [dif_pos hm0]
  unfold lane
  show x ((win0_0.rect t).emb _) = _
  refine congrArg x (funext fun a => Fin.ext ?_)
  fin_cases a
  · refine (Window.rect_emb_val win0_0 t _ (0 : Fin 3) rfl).trans ?_
    exact (congrArg (· + k.val) (Nat.zero_mul 81)).trans (Nat.zero_add _)
  · exact (Window.rect_emb_val win0_0 t _ (1 : Fin 3) rfl).trans (Window.rect_emb_val win0_1 t (fun a => ⟨(j a).val, hm a⟩) (0 : Fin 2) rfl).symm
  · exact (Window.rect_emb_val win0_0 t _ (2 : Fin 3) rfl).trans (Window.rect_emb_val win0_1 t (fun a => ⟨(j a).val, hm a⟩) (1 : Fin 2) rfl).symm

/-- The body on its three staging buffers: the scores and classes of the lanes the first holds. -/
theorem sound_body0 (c : Dev nD) (E : Set ℕ) (i : grid0.Coords) (M1 : Memref sig .tc .vmem S81x8x2560 .f32) (h1 : M1.IsWhole)
    (M2 : Memref sig .tc .vmem S8x2560 .f32) (h2 : M2.IsWhole) (M3 : Memref sig .tc .vmem S8x2560 .f32) (h3 : M3.IsWhole)
    (X1 : S81x8x2560.Idx → Elt F .f32) (X2 X3 : S8x2560.Idx → Elt F .f32) (K : PUnit → sProp 𝕄) :
    iprop((owns (c : Thread nD τ) M1 fullShare X1 ∗ owns (c : Thread nD τ) M2 fullShare X2 ∗ owns (c : Thread nD τ) M3 fullShare X3)
          ∗ (iprop(owns (c : Thread nD τ) M1 fullShare X1
              ∗ owns (c : Thread nD τ) M2 fullShare (fun j => laneScore fun k => X1 (ix3 k (j 0) (j 1)))
              ∗ owns (c : Thread nD τ) M3 fullShare (fun j => laneCls fun k => X1 (ix3 k (j 0) (j 1)))) -∗ K ⟨⟩))
      ⊢ wp frame (wpE (defs₀ (F := F)) Variants.none c none) E (cc0__scores_body i M1 h1 M2 h2 M3 h3) K := by
  unfold owns
  rw [h1.set_eq_univ, h2.set_eq_univ, h3.set_eq_univ]
  iintro ⟨⟨⟨%f1, %e1, H1⟩, ⟨%f2, %e2, H2⟩, ⟨%f3, %e3, H3⟩⟩, Hk⟩
  iapply ((scoresRun c i M1 h1 M2 h2 M3 h3 f1).2 f2 f3 E K)
  isplitl [H1]; · iexact H1
  isplitl [H2]; · iexact H2
  isplitl [H3]; · iexact H3
  iintro ⟨H1, H2, H3⟩
  iapply Hk
  isplitl [H1]
  · iexists f1; isplitr; · ipureintro; exact e1
    iexact H1
  isplitl [H2]
  · iexists (scoresRun c i M1 h1 M2 h2 M3 h3 f1).1.1
    isplitr
    · ipureintro
      refine (run_score c M1 f1 i h1 M2 h2 M3 h3).trans (funext fun j => ?_)
      rw [laneAt_eq, e1]
    iexact H2
  · iexists (scoresRun c i M1 h1 M2 h2 M3 h3 f1).1.2
    isplitr
    · ipureintro
      refine (run_cls c M1 f1 i h1 M2 h2 M3 h3).trans (funext fun j => ?_)
      rw [laneAt_eq, e1]
    iexact H3

/-- The first region's body obligation. -/
theorem body_obligation0 (c : Dev nD) : BodyObligationLoose (dat0 V c) (defs₀ (F := F)) Variants.none () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩⟩
  rw [before0_0 V c t d0]
  iapply (sound_body0 (F := F) c Set.univ (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_0.fill (grid0.coords t) d0 (xblk V c t)) _ _ _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  have hx : win0_0.cut (grid0.coords t) ((dat0 V c).after (0 : Fin 3) t) = xblk V c t := win0_0.cut_fill _ _ _
  have hs : win0_1.cut (grid0.coords t) ((dat0 V c).after (1 : Fin 3) t) = sblk V c t := win0_1.cut_fill _ _ _
  have hk : win0_2.cut (grid0.coords t) ((dat0 V c).after (2 : Fin 3) t) = kblk V c t := win0_2.cut_fill _ _ _
  have fs : (fun j : S8x2560.Idx => laneScore fun k => win0_0.fill (grid0.coords t) d0 (xblk V c t) (ix3 k (j 0) (j 1)))
      = win0_1.fill (grid0.coords t) (fun j => laneScore fun k => win0_0.fill (grid0.coords t) d0 (xblk V c t) (ix3 k (j 0) (j 1))) (sblk V c t) := by
    funext j
    by_cases hj : win0_1.moved (grid0.coords t) j = true
    · conv_rhs => unfold Window.fill
      rw [dif_pos hj]
      exact congrArg laneScore (funext fun k => lane_fill (logits V c) t d0 j hj k)
    · rw [Window.fill_of_not_moved _ _ _ _ hj]
  have fk : (fun j : S8x2560.Idx => laneCls fun k => win0_0.fill (grid0.coords t) d0 (xblk V c t) (ix3 k (j 0) (j 1)))
      = win0_2.fill (grid0.coords t) (fun j => laneCls fun k => win0_0.fill (grid0.coords t) d0 (xblk V c t) (ix3 k (j 0) (j 1))) (kblk V c t) := by
    funext j
    by_cases hj : win0_2.moved (grid0.coords t) j = true
    · conv_rhs => unfold Window.fill
      rw [dif_pos hj]
      exact congrArg laneCls (funext fun k => lane_fill (logits V c) t d0 j hj k)
    · rw [Window.fill_of_not_moved _ _ _ _ hj]
  isplitl [H0]
  · iexists d0
    change _ ⊢ owns (c : Thread nD τ) (win0_0.stage (cfg0.slots t 0)) fullShare (win0_0.fill (grid0.coords t) d0 (win0_0.cut (grid0.coords t) ((dat0 V c).after (0 : Fin 3) t)))
    rw [hx]; try iexact H0
  isplitl [H1]
  · iexists (fun j => laneScore fun k => win0_0.fill (grid0.coords t) d0 (xblk V c t) (ix3 k (j 0) (j 1)))
    change _ ⊢ owns (c : Thread nD τ) (win0_1.stage (cfg0.slots t 1)) fullShare (win0_1.fill (grid0.coords t) _ (win0_1.cut (grid0.coords t) ((dat0 V c).after (1 : Fin 3) t)))
    rw [hs, ← fs]; try iexact H1
  · iexists (fun j => laneCls fun k => win0_0.fill (grid0.coords t) d0 (xblk V c t) (ix3 k (j 0) (j 1)))
    change _ ⊢ owns (c : Thread nD τ) (win0_2.stage (cfg0.slots t 2)) fullShare (win0_2.fill (grid0.coords t) _ (win0_2.cut (grid0.coords t) ((dat0 V c).after (2 : Fin 3) t)))
    rw [hk, ← fk]; try iexact H2

/-- The first lane of each block and how many of its lanes lie inside the array: 2560 of them, 2080 in the last. -/
theorem off0_1 : ∀ t : Fin grid0.N, win0_1.index t 0 * 8 = 0 ∧ win0_1.xsize (grid0.coords t) 0 = 8 ∧ win0_1.index t 1 * 2560 = t.val * 2560
    ∧ win0_1.xsize (grid0.coords t) 1 = min 2560 (20000 - t.val * 2560) := by decide +kernel
theorem off0_2 : ∀ t : Fin grid0.N, win0_2.index t 0 * 8 = 0 ∧ win0_2.xsize (grid0.coords t) 0 = 8 ∧ win0_2.index t 1 * 2560 = t.val * 2560
    ∧ win0_2.xsize (grid0.coords t) 1 = min 2560 (20000 - t.val * 2560) := by decide +kernel

/-- The block of anchor `p`: number `p / 2560`. -/
def blockOf (p : S8x20000.Idx) : Fin cfg0.N := ⟨(p 1).val / 2560, by have h : (p 1).val < 20000 := (p 1).isLt; show _ < grid0.N; rw [N_0]; omega⟩

/-- The blocks cover the arrays. -/
theorem cover0_1 (p : S8x20000.Idx) : p ∈ ((cfg0.win (1 : Fin 3)).blk (blockOf p)).view.set := by
  show p ∈ ((View.whole main_v4_0).slice (win0_1.rect (blockOf p))).set
  rw [View.set_slice_whole, Rect.mem_set_unit]
  have h0 : (p 0).val < 8 := (p 0).isLt
  have h1 : (p 1).val < 20000 := (p 1).isLt
  obtain ⟨e0, e1, e2, e3⟩ := off0_1 (blockOf p)
  have ev : (blockOf p).val = (p 1).val / 2560 := rfl
  intro a
  match a with
  | ⟨0, _⟩ =>
    change win0_1.index (blockOf p) 0 * 8 ≤ (p 0).val ∧ (p 0).val < win0_1.index (blockOf p) 0 * 8 + win0_1.xsize (grid0.coords (blockOf p)) 0
    rw [e0, e1]; omega
  | ⟨1, _⟩ =>
    change win0_1.index (blockOf p) 1 * 2560 ≤ (p 1).val ∧ (p 1).val < win0_1.index (blockOf p) 1 * 2560 + win0_1.xsize (grid0.coords (blockOf p)) 1
    rw [e2, e3, ev]; omega
theorem cover0_2 (p : S8x20000.Idx) : p ∈ ((cfg0.win (2 : Fin 3)).blk (blockOf p)).view.set := by
  show p ∈ ((View.whole main_v4_1).slice (win0_2.rect (blockOf p))).set
  rw [View.set_slice_whole, Rect.mem_set_unit]
  have h0 : (p 0).val < 8 := (p 0).isLt
  have h1 : (p 1).val < 20000 := (p 1).isLt
  obtain ⟨e0, e1, e2, e3⟩ := off0_2 (blockOf p)
  have ev : (blockOf p).val = (p 1).val / 2560 := rfl
  intro a
  match a with
  | ⟨0, _⟩ =>
    change win0_2.index (blockOf p) 0 * 8 ≤ (p 0).val ∧ (p 0).val < win0_2.index (blockOf p) 0 * 8 + win0_2.xsize (grid0.coords (blockOf p)) 0
    rw [e0, e1]; omega
  | ⟨1, _⟩ =>
    change win0_2.index (blockOf p) 1 * 2560 ≤ (p 1).val ∧ (p 1).val < win0_2.index (blockOf p) 1 * 2560 + win0_2.xsize (grid0.coords (blockOf p)) 1
    rw [e2, e3, ev]; omega

/-- What the two result arrays end holding. -/
theorem scores_end (c : Dev nD) : (dat0 V c).arrAt (1 : Fin 3) cfg0.N = scoreOf (logits V c) := by
  refine (dat0 V c).arrAt_eq_of_cover (1 : Fin 3) (scoreOf (logits V c)) (fun t _ => ?_) (fun p => ⟨blockOf p, flush0_1 _, cover0_1 p⟩)
  exact win0_1.cut_fill _ _ _
theorem classes_end (c : Dev nD) : (dat0 V c).arrAt (2 : Fin 3) cfg0.N = clsOf (logits V c) := by
  refine (dat0 V c).arrAt_eq_of_cover (2 : Fin 3) (clsOf (logits V c)) (fun t _ => ?_) (fun p => ⟨blockOf p, flush0_2 _, cover0_2 p⟩)
  exact win0_2.cut_fill _ _ _

end Cert.Proof.KernelIdeal

end
-- ==== Proof.KernelIdeal.Frame.lean ====
module

public import proofs.«01_k».proof.Proof.Gen.KernelIdeal.Launch
public import proofs.«01_k».proof.Proof.Gen.KernelIdeal.Regions
public import proofs.«01_k».proof.Proof.KernelIdeal.NmsRegion
public import proofs.«01_k».proof.Proof.Gen.KernelIdeal.Points
public import proofs.«01_k».proof.Proof.Gen.KernelIdeal.Skeleton
public import Idealize.ShloMosaic.Lib.Pipeline.RegionArraysS
public import Idealize.ShloMosaic.Lib.Pipeline.FrameBody
public import Idealize.ShloMosaic.Lib.Tactic
public import Idealize.ShloMosaic.Lib.VecWindow
public import Idealize.ShloMosaic.Lib.Pointwise.Tactic
public import proofs.«01_k».proof.Proof.KernelIdeal.ScoresRegion

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg HostSeg RegionSeg Dat Cfg Window BodyObligation BodyObligationLoose cellOf)

variable {F : FTy → Type} [FloatOps F]

local notation "𝕄" => MT nD τ sig Unit (Elt F) ℕ (UR sig nD τ) ℕ

/-! ## The two regions' records and the program's frame -/

variable (m : (ℓ : Loc nD τ sig) → Buf (Elt F) ℓ)

/-- The contents after the first region and after the second. -/
def X2 (c : Dev nD) : Valuation τ sig (Elt F) := Pipeline.afterRegion (dat0 (V1 m) c) (V1 m c)
def X3 (c : Dev nD) : Valuation τ sig (Elt F) := Pipeline.afterRegion (dat1 (X2 m) c) (X2 m c)

/-- What the regions leave in each buffer. -/
def left : Outs (F := F) := fun J r c => if J = 2 then X2 m c r else X3 m c r

/-- The two regions' proof data. -/
def dats : (p : Fin 2) → (c : Dev nD) → Dat τ (Elt F) Unit ℕ (UR sig nD τ) ℕ (cfgs p) c
  | 0 => dat0 (V1 m)
  | 1 => dat1 (X2 m)

/-- Off its two results the first region changes nothing, -/
theorem X2_keeps (c : Dev nD) (b : DevRef τ sig) (h0 : b ≠ Proc.devRef .tc main_v4_0) (h1 : b ≠ Proc.devRef .tc main_v4_1) : X2 m c b = V1 m c b := by
  by_cases h : ∃ w : Fin cfg0.W, b = Proc.devRef .tc (Pipeline.arrRef cfg0.spec w)
  · obtain ⟨w, rfl⟩ := h
    refine Pipeline.afterRegion_keeps (dat0 (V1 m) c) (V1 m c) launch0.win.arr_inj (fun _ => rfl) _ (fun w' e => ?_)
    fin_cases w'
    · rfl
    · exact absurd (congrArg (Proc.devRef .tc) e).symm h0
    · exact absurd (congrArg (Proc.devRef .tc) e).symm h1
  · unfold X2 Pipeline.afterRegion
    rw [dif_neg h]
/-- and off its six the second. -/
theorem X3_keeps (c : Dev nD) (b : DevRef τ sig) (h0 : b ≠ Proc.devRef .tc main_v5_0) (h1 : b ≠ Proc.devRef .tc main_v5_1) (h2 : b ≠ Proc.devRef .tc main_v5_2)
    (h3 : b ≠ Proc.devRef .tc main_v5_3) (h4 : b ≠ Proc.devRef .tc main_v5_4) (h5 : b ≠ Proc.devRef .tc main_v5_5) : X3 m c b = X2 m c b := by
  by_cases h : ∃ w : Fin cfg1.W, b = Proc.devRef .tc (Pipeline.arrRef cfg1.spec w)
  · obtain ⟨w, rfl⟩ := h
    refine Pipeline.afterRegion_keeps (dat1 (X2 m) c) (X2 m c) launch1.win.arr_inj (fun _ => rfl) _ (fun w' e => ?_)
    fin_cases w'
    · rfl
    · rfl
    · rfl
    · rfl
    · exact absurd (congrArg (Proc.devRef .tc) e).symm h0
    · exact absurd (congrArg (Proc.devRef .tc) e).symm h1
    · exact absurd (congrArg (Proc.devRef .tc) e).symm h2
    · exact absurd (congrArg (Proc.devRef .tc) e).symm h3
    · exact absurd (congrArg (Proc.devRef .tc) e).symm h4
    · exact absurd (congrArg (Proc.devRef .tc) e).symm h5
  · unfold X3 Pipeline.afterRegion
    rw [dif_neg h]

/-- A valuation that agrees with another off some buffers is the other updated there. -/
theorem V2_left (c : Dev nD) : V2 m (left m) c = X2 m c := by
  funext b
  by_cases e1 : b = Proc.devRef .tc main_v4_1
  · subst e1; unfold V2; rw [Function.update_self]; rfl
  by_cases e0 : b = Proc.devRef .tc main_v4_0
  · subst e0; unfold V2; rw [Function.update_of_ne e1, Function.update_self]; rfl
  unfold V2
  rw [Function.update_of_ne e1, Function.update_of_ne e0, X2_keeps m c b e0 e1]
theorem V3_left (c : Dev nD) : V3 m (left m) c = X3 m c := by
  funext b
  unfold V3
  rw [V2_left]
  by_cases e5 : b = Proc.devRef .tc main_v5_5
  · subst e5; rw [Function.update_self]; rfl
  rw [Function.update_of_ne e5]
  by_cases e4 : b = Proc.devRef .tc main_v5_4
  · subst e4; rw [Function.update_self]; rfl
  rw [Function.update_of_ne e4]
  by_cases e3 : b = Proc.devRef .tc main_v5_3
  · subst e3; rw [Function.update_self]; rfl
  rw [Function.update_of_ne e3]
  by_cases e2 : b = Proc.devRef .tc main_v5_2
  · subst e2; rw [Function.update_self]; rfl
  rw [Function.update_of_ne e2]
  by_cases e1 : b = Proc.devRef .tc main_v5_1
  · subst e1; rw [Function.update_self]; rfl
  rw [Function.update_of_ne e1]
  by_cases e0 : b = Proc.devRef .tc main_v5_0
  · subst e0; rw [Function.update_self]; rfl
  rw [Function.update_of_ne e0, X3_keeps m c b e0 e1 e2 e3 e4 e5]

/-- The waits' levels: every semaphore of a core's pipelines at the same one. -/
abbrev Lv (g : GSem nD τ sig) : Finset Unit := if g.1.2 = .tc then Finset.univ else ∅
abbrev lv₀ (_ : GSem nD τ sig) (_ : Unit) : ℕ := 0
/-- Nothing is owed anywhere. -/
abbrev none₀ (_ : Dev nD) : CellTallies nD τ sig Unit := 0
abbrev emp₀ (_ : Dev nD) : sProp 𝕄 := iprop(emp)
/-- What rides along between the items: the core owes nothing. -/
abbrev rest (_ : Fin 3) (c : Dev nD) : sProp 𝕄 := iprop((∃ Wd, owes (c : Thread nD τ) (none₀ c) Wd) ∗ emp₀ c ∗ emp₀ c)

theorem cut_levels (p : Fin 2) : Pipeline.LevelCut (pcfgs (F := F)) adm () Lv lv₀ p none₀ (fun _ => 0) where
  hι c w s := by simp [Lv]
  hιb c w s := le_refl _
  hD c g i h := absurd h (Nat.lt_irrefl 0)

set_option backward.isDefEq.respectTransparency.types false in
/-- The first region's record. -/
def rec0 : RegionSeg (pcfgs (F := F)) adm (dats m) () defs₀ Variants.none Lv lv₀ 0 :=
  RegionSeg.ofHeldIn (pcfgs (F := F)) adm (dats m) () defs₀ Variants.none Lv lv₀ 0 none₀ (Pipeline.ucRefs τ sig) emp₀ emp₀ launch0.toP rfl
    (fun c => body_obligation0 (V1 m) c) (fun _ _ => rfl) (fun _ => rfl) (fun c => (dats m 0 c).share_full fun _ => rfl)
    (fun c => by
      show iprop(Pipeline.scopedRest cfg0.spec c ∗ emp₀ c) ⊢ Pipeline.scopedRest cfg0.spec c
      iintro ⟨H, -⟩; iexact H)
    (fun c => by
      show Pipeline.scopedRest cfg0.spec c ⊢ iprop(Pipeline.scopedRest cfg0.spec c ∗ emp₀ c)
      iintro H; isplitl [H]; · iexact H
      iempintro)
    (fun _ => 0) (cut_levels 0) emp₀ (V1 m) (fun _ _ => rfl)

set_option backward.isDefEq.respectTransparency.types false in
/-- The second region's. -/
def rec1 : RegionSeg (pcfgs (F := F)) adm (dats m) () defs₀ Variants.none Lv lv₀ 1 :=
  RegionSeg.ofHeldIn (pcfgs (F := F)) adm (dats m) () defs₀ Variants.none Lv lv₀ 1 none₀ (Pipeline.ucRefs τ sig) emp₀ emp₀ launch1.toP rfl
    (fun c => body_obligation1 (X2 m) c) (fun _ _ => rfl) (fun _ => rfl) (fun c => (dats m 1 c).share_full fun _ => rfl)
    (fun c => by
      show iprop(Pipeline.scopedRest cfg1.spec c ∗ emp₀ c) ⊢ Pipeline.scopedRest cfg1.spec c
      iintro ⟨H, -⟩; iexact H)
    (fun c => by
      show Pipeline.scopedRest cfg1.spec c ⊢ iprop(Pipeline.scopedRest cfg1.spec c ∗ emp₀ c)
      iintro H; isplitl [H]; · iexact H
      iempintro)
    (fun _ => 0) (cut_levels 1) emp₀ (X2 m) (fun _ _ => rfl)

/-- The arrays of each region are among the buffers held. -/
theorem arrs0 : Pipeline.arrRefs (pcfgs (F := F) 0).spec ⊆ Pipeline.ucRefs τ sig := Pipeline.arrRefs_sub_ucRefs _ fun w => by fin_cases w <;> rfl
theorem arrs1 : Pipeline.arrRefs (pcfgs (F := F) 1).spec ⊆ Pipeline.ucRefs τ sig := Pipeline.arrRefs_sub_ucRefs _ fun w => by fin_cases w <;> rfl

theorem pre0 (c : Dev nD) : iprop(StableHlo.held (c : Thread nD τ) (Pipeline.ucRefs τ sig) (V1 m c) ∗ rest 0 c) ⊢ (rec0 m).pre c :=
  RegionSeg.ofHeldIn_pre arrs0 c
theorem post0 (c : Dev nD) : (rec0 m).post c ⊢ iprop(StableHlo.held (c : Thread nD τ) (Pipeline.ucRefs τ sig) (V2 m (left m) c) ∗ rest 1 c) := by
  rw [V2_left]; exact RegionSeg.ofHeldIn_post arrs0 c
theorem pre1 (c : Dev nD) : iprop(StableHlo.held (c : Thread nD τ) (Pipeline.ucRefs τ sig) (V2 m (left m) c) ∗ rest 1 c) ⊢ (rec1 m).pre c := by
  rw [V2_left]; exact RegionSeg.ofHeldIn_pre arrs1 c
theorem post1 (c : Dev nD) : (rec1 m).post c ⊢ iprop(StableHlo.held (c : Thread nD τ) (Pipeline.ucRefs τ sig) (V3 m (left m) c) ∗ rest 2 c) := by
  rw [V3_left]; exact RegionSeg.ofHeldIn_post arrs1 c

/-- The proof's resource algebra: the pipelines' rounds. -/
abbrev EP : Emb (UR sig nD τ) (MT nD τ sig Unit (Elt F) ℕ (UR sig nD τ) ℕ) := emb₁
/-- The launch element: every staging cell's owner and the transfers' tokens. -/
def u₀ : UR sig nD τ := initOf (Pipeline.cells cfgs cellOf_inj) (Pipeline.launchToks cfgs cellOf_inj)

theorem launch_u : (ownU u₀ : sProp 𝕄) ⊢ |={Set.univ}=> iprop(BI.own (EP (F := F) (initOf (Pipeline.cells cfgs cellOf_inj) (Pipeline.launchToks cfgs cellOf_inj))) ∗ bigSep Finset.univ emp₀) := by
  rw [show (bigSep Finset.univ emp₀ : sProp 𝕄) = iprop(emp) from bigSep_emp_const _]
  have h : (ownU u₀ : sProp 𝕄) ⊢ BI.own (EP (F := F) (initOf (Pipeline.cells cfgs cellOf_inj) (Pipeline.launchToks cfgs cellOf_inj))) := BI.Entails.refl _
  iintro H
  imodintro
  isplitl [H]; · iapply h; iexact H
  iempintro

theorem launch_rest (ρ : Dev nD → PrngReg) : iprop((bigSep Finset.univ fun c : Dev nD => iprop(unscopedSems0 c ∗ owes (c : Thread nD τ) (none₀ c) ∅ ∗ Pipeline.launchCred none₀ c ∗ prngReg c (ρ c) ∗ emp₀ c)) ∗ levAts Lv lv₀)
      ⊢ (|={Set.univ}=> bigSep Finset.univ (rest 0) : sProp 𝕄) := by
  have h : (bigSep Finset.univ fun c : Dev nD => iprop(unscopedSems0 c ∗ owes (c : Thread nD τ) (none₀ c) ∅ ∗ Pipeline.launchCred none₀ c ∗ prngReg c (ρ c) ∗ emp₀ c))
      ⊢ (bigSep Finset.univ (rest 0) : sProp 𝕄) :=
    bigSep_mono fun c _ => by
      show iprop(unscopedSems0 c ∗ owes (c : Thread nD τ) (none₀ c) ∅ ∗ Pipeline.launchCred none₀ c ∗ prngReg c (ρ c) ∗ emp₀ c) ⊢ rest 0 c
      iintro ⟨-, H, -⟩
      isplitl [H]; · iexists ∅; iexact H
      isplitr <;> iempintro
  iintro ⟨H, -⟩
  imodintro
  iapply h
  iexact H

theorem rest_owes (c : Dev nD) : rest 2 c ⊢ (iprop(∃ W, owes (c : Thread nD τ) (0 : CellTallies nD τ sig Unit) W) : sProp 𝕄) := by
  iintro ⟨H, -, -⟩; iexact H

/-- The frame: every run ends, the arguments unchanged and every counter at zero. -/
theorem frame_run (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  frame_cond m EP () Variants.none Lv lv₀ (fun g h => if_neg h) ρ (left m) (dats m) none₀ emp₀ u₀ launch_u rest (launch_rest ρ) rest_owes
    (rec0 m) (pre0 m) (post0 m) (rec1 m) (pre1 m) (post1 m)

end Cert.Proof.KernelIdeal

end
-- ==== Proof.KernelFrame.lean ====
module

public import proofs.«01_k».proof.Proof.KernelIdeal.Frame
public import proofs.«01_k».proof.Proof.Gen.Kernel
public import proofs.«01_k».proof.Defs

/-! # The frame of the lowered kernel

The kernel's program and the program it is idealized to are the same text, so the run proved once
at any arithmetic is the run of both.  The two procedure tables are compared body by body. -/

@[expose] public section
set_option maxRecDepth 16384
noncomputable section
namespace Cert.Proof
open Idealize.ShloMosaic
variable {F : FTy → Type} [FloatOps F]

theorem body0_same :
    Cert.Kernel.cc0__scores_body (F := F) = Cert.KernelIdeal.cc0__scores_body (F := F) := rfl

theorem defs₀_same : Cert.Kernel.defs₀ (F := F) = Cert.KernelIdeal.defs₀ (F := F) := by
  unfold Cert.Kernel.defs₀ Cert.KernelIdeal.defs₀
  refine congrArg Defs.onTc (funext fun l => funext fun a => ?_)
  fin_cases l
  · exact congrFun (congrFun (congrFun (congrFun (congrFun (congrFun (congrFun
      body0_same _) _) _) _) _) _) _
  · rfl

/-- The two procedure tables are one. -/
theorem defs_same : Cert.Kernel.defs (F := F) = Cert.KernelIdeal.defs (F := F) :=
  congrArg (Pipeline.defs Cert.KernelIdeal.pcfgs) defs₀_same

/-- The two host programs are one. -/
theorem main_same : Cert.Kernel.main (F := F) = Cert.KernelIdeal.main (F := F) := rfl

theorem frame_kernel [h1 : Cert.Kernel.Facts] : Cert.quiescent_Kernel := by
  intro m g _
  have h := KernelIdeal.frame_run (F := Bits) m g
  rw [← defs_same] at h
  exact h

end Cert.Proof
end
-- ==== Proof.Frames.lean ====
module

public import proofs.«01_k».proof.Proof.KernelFrame
public import proofs.«01_k».proof.Proof.Gen.ReferenceIdeal
public import proofs.«01_k».proof.Proof.Gen.ReferenceIdeal.Run
public import proofs.«01_k».proof.Defs
public import Idealize.ShloMosaic.Lib.Quiescent

/-! # The frames

Each program runs to an end, leaves its arguments alone and every counter at zero. -/

@[expose] public section
noncomputable section
namespace Cert.Proof
open Idealize.ShloMosaic

theorem frame_ideal [h1 : Cert.KernelIdeal.Facts] : Cert.quiescent_KernelIdeal :=
  fun m g _ => KernelIdeal.frame_run (F := Ideal) m g

/-- The reference owns no counter, so the run of its values is the frame too. -/
theorem frame_reference [h1 : Cert.ReferenceIdeal.Facts] : Cert.quiescent_ReferenceIdeal :=
  fun m g _ => (θ_run _ _ _).mono
    (fun r h => ⟨fun c => (h c).2, sem_eq_zero_of_no_sems (by decide) r.2⟩)
    (Cert.ReferenceIdeal.Value.run (F := Ideal) m g)

end Cert.Proof
end
-- ==== Proof.First.lean ====
module

public import Idealize.ShloMosaic.Lib.StableHlo
public import Idealize.ShloMosaic.PureOps
public import Idealize.ShloMosaic.PureOps.Reduce
public import Idealize.ShloMosaic.Lib.Pointwise.Tactic
public import Idealize.ShloMosaic.Lib.Pointwise.Reduce
public import Idealize.ShloMosaic.Lib.Pointwise.ReduceUnfold

@[expose] public section

noncomputable section

namespace Cert.Proof

open Idealize.ShloMosaic

/-- `i` is the first place at which `v` is greatest. -/
def IsFirst {n : Nat} (v : Fin n → EReal) (i : Fin n) : Prop :=
  (∀ j, v j ≤ v i) ∧ ∀ j, j < i → v j < v i

theorem IsFirst.unique {n : Nat} {v : Fin n → EReal} {i j : Fin n} (hi : IsFirst v i) (hj : IsFirst v j) : i = j := by
  rcases lt_trichotomy i j with h | h | h
  · exact absurd (hj.2 i h) (not_lt.mpr (hi.1 j))
  · exact h
  · exact absurd (hi.2 j h) (not_lt.mpr (hj.1 i))

/-- A stable sort of increasing places by greater values begins with the first greatest. -/
theorem stableSort_head {n : Nat} (v : Fin n → EReal) (b : Fin n → Fin n → Bool) (hb : ∀ i j, b i j = true ↔ v j < v i) :
    ∀ (l : List (Fin n)), l ≠ [] → l.Pairwise (· < ·) →
      ∃ h t, stableSort b l = h :: t ∧ h ∈ l ∧ (∀ j ∈ l, v j ≤ v h) ∧ ∀ j ∈ l, j < h → v j < v h
  | [], h, _ => absurd rfl h
  | [a], _, _ => ⟨a, [], rfl, by simp, by simp, by simp⟩
  | a :: c :: l, _, hp => by
    obtain ⟨h, t, he, hm, hmax, hlt⟩ := stableSort_head v b hb (c :: l) (by simp) (List.pairwise_cons.mp hp).2
    have ha := (List.pairwise_cons.mp hp).1
    rw [stableSort, he, insertBefore]
    by_cases hc : b h a = true
    · have hv := (hb h a).mp hc
      rw [if_pos hc]
      refine ⟨h, _, rfl, List.mem_cons_of_mem _ hm, ?_, ?_⟩
      · intro j hj
        rcases List.mem_cons.mp hj with rfl | hj
        · exact hv.le
        · exact hmax j hj
      · intro j hj hjh
        rcases List.mem_cons.mp hj with rfl | hj
        · exact hv
        · exact hlt j hj hjh
    · have hv := not_lt.mp (fun hh => hc ((hb h a).mpr hh))
      rw [if_neg hc]
      refine ⟨a, _, rfl, List.mem_cons_self, ?_, ?_⟩
      · intro j hj
        rcases List.mem_cons.mp hj with rfl | hj
        · exact le_rfl
        · exact (hmax j hj).trans hv
      · intro j hj hja
        rcases List.mem_cons.mp hj with rfl | hj
        · exact absurd hja (lt_irrefl _)
        · exact absurd hja (not_lt.mpr (ha j hj).le)

/-- The place a stable sort by greater values puts first is the first greatest. -/
theorem sortedFrom_first {n : Nat} (v : Fin n → EReal) (b : Fin n → Fin n → Bool) (hb : ∀ i j, b i j = true ↔ v j < v i)
    (k : Fin n) (hk : k.val = 0) : IsFirst v (sortedFrom b k) := by
  obtain ⟨h, t, he, -, hmax, hlt⟩ := stableSort_head v b hb (List.finRange n)
    (fun h0 => by have := List.length_finRange (n := n); rw [h0] at this; have := k.2; simp_all)
    (List.pairwise_lt_finRange n)
  have hs : sortedFrom b k = h := by
    have : (sortPositions n b)[0]? = some h := by rw [sortPositions, he]; rfl
    rw [List.getElem?_eq_some_iff] at this
    obtain ⟨h0, h1⟩ := this
    rw [← h1]
    simp only [sortedFrom, List.get_eq_getElem, Fin.val_cast, hk]
  rw [hs]
  exact ⟨fun j => hmax j (List.mem_finRange j), fun j => hlt j (List.mem_finRange j)⟩

theorem exists_first {n : Nat} [NeZero n] (v : Fin n → EReal) : ∃ i, IsFirst v i :=
  ⟨_, sortedFrom_first v (fun i j => decide (v j < v i)) (fun i j => by simp) 0 (by simp)⟩

/-- The first place at which `v` is greatest. -/
def first {n : Nat} [NeZero n] (v : Fin n → EReal) : Fin n := (exists_first v).choose

theorem first_spec {n : Nat} [NeZero n] (v : Fin n → EReal) : IsFirst v (first v) := (exists_first v).choose_spec

theorem IsFirst.eq_first {n : Nat} [NeZero n] {v : Fin n → EReal} {i : Fin n} (h : IsFirst v i) : i = first v :=
  h.unique (first_spec v)

/-- A maximum folded from the bottom is the value at the first greatest place. -/
theorem fold_max_first {n : Nat} [NeZero n] (v : Fin n → EReal) :
    (Finset.univ : Finset (Fin n)).fold max ⊥ v = v (first v) := by
  apply le_antisymm
  · rw [Finset.fold_max_le]
    exact ⟨bot_le, fun j _ => (first_spec v).1 j⟩
  · rw [Finset.le_fold_max]
    exact Or.inr ⟨_, Finset.mem_univ _, le_rfl⟩

theorem toInt_minsi (x y : BitVec 32) : (IntOp.minsi x y).toInt = min x.toInt y.toInt := by
  unfold IntOp.minsi
  rw [BitVec.slt_eq_decide]
  by_cases h : x.toInt < y.toInt
  · simp [h, h.le]
  · simp [h, not_lt.mp h]

theorem toInt_place {n : Nat} (hn : n ≤ 20000) (i : Fin n) : (BitVec.ofNat 32 i.val).toInt = i.val := by
  have := i.2
  rw [BitVec.toInt_eq_toNat_of_lt] <;> rw [BitVec.toNat_ofNat] <;> omega

/-- The least place among those holding the greatest value is the first greatest. -/
theorem fold_minsi_first {n : Nat} [NeZero n] (hn : n ≤ 20000) (v : Fin n → EReal) (m : EReal) (hm : m = v (first v)) :
    (Finset.univ : Finset (Fin n)).fold IntOp.minsi 2147483647#32
      (fun k => if v k = m then BitVec.ofNat 32 k.val else 20000#32) = BitVec.ofNat 32 (first v).val := by
  apply BitVec.eq_of_toInt_eq
  rw [← Finset.fold_hom (op' := (min : Int → Int → Int)) (m := BitVec.toInt) toInt_minsi, toInt_place hn]
  have hi := (first v).2
  apply le_antisymm
  · rw [Finset.fold_min_le]
    refine Or.inr ⟨first v, Finset.mem_univ _, ?_⟩
    rw [if_pos hm.symm, toInt_place hn]
  · rw [Finset.le_fold_min]
    refine ⟨?_, fun k _ => ?_⟩
    · have : (2147483647#32).toInt = 2147483647 := by decide
      omega
    · split
      · rename_i hk
        rw [toInt_place hn]
        by_contra hlt
        have : k < first v := by rw [Fin.lt_def]; omega
        exact absurd ((first_spec v).2 k this) (by rw [hk, hm]; exact lt_irrefl _)
      · have : (20000#32).toInt = 20000 := by decide
        omega

/-- Picking by the mark of one place: the sum has one term left. -/
theorem sum_pick {n : Nat} (v : Fin n → EReal) (i : Fin n) :
    (∑ k : Fin n, if k = i then v k else 0) = v i := by
  rw [Finset.sum_ite_eq' Finset.univ i v, if_pos (Finset.mem_univ i)]

theorem places_eq_iff (n i : Fin 20000) : BitVec.ofNat 32 n.val = BitVec.ofNat 32 i.val ↔ n = i := by
  constructor
  · intro h
    have := congrArg BitVec.toNat h
    rw [BitVec.toNat_ofNat, BitVec.toNat_ofNat] at this
    have := n.2; have := i.2
    apply Fin.ext; omega
  · rintro rfl; rfl

/-- The chosen place and what overlaps it are out. -/
theorem select_place {α : Type} (n i : Fin 20000) (p : Prop) [Decidable p] [Decidable (p ∨ n = i)] (x y : α) :
    Scalar.select (IntOp.cmpi .eq (BitVec.ofNat 32 n.val) (BitVec.ofNat 32 i.val)) x (if p then x else y) = if p ∨ n = i then x else y := by
  by_cases hn : n = i
  · subst hn
    simp [Scalar.select, IntOp.cmpi]
  · have : (BitVec.ofNat 32 n.val == BitVec.ofNat 32 i.val) = false := beq_eq_false_iff_ne.mpr fun h => hn ((places_eq_iff _ _).mp h)
    by_cases hp : p <;> simp [Scalar.select, IntOp.cmpi, this, hn, hp]

end Cert.Proof
-- ==== Proof.Spec.lean ====
module

public import proofs.«01_k».proof.Proof.First

@[expose] public section

noncomputable section

namespace Cert.Proof

open Idealize.ShloMosaic

/-- The number a written constant stands for. -/
abbrev lit (b : BitVec 32) : EReal := Ideal.ofBits .f32 b

/-- One image's values, a number for each of the boxes. -/
abbrev Row : Type := Fin 20000 → EReal

/-- The area of a box. -/
def areaOf (x1 y1 x2 y2 : Row) (n : Fin 20000) : EReal := (x2 n - x1 n) * (y2 n - y1 n)

/-- The area two boxes share. -/
def sharedOf (x1 y1 x2 y2 : Row) (i n : Fin 20000) : EReal :=
  max (min (x2 i) (x2 n) - max (x1 i) (x1 n)) 0 * max (min (y2 i) (y2 n) - max (y1 i) (y1 n)) 0

/-- The two boxes overlap too much. -/
def Over (x1 y1 x2 y2 : Row) (i n : Fin 20000) : Prop :=
  lit 0x3EE66666#32 < Ideal.div (sharedOf x1 y1 x2 y2 i n)
    (areaOf x1 y1 x2 y2 i + areaOf x1 y1 x2 y2 n - sharedOf x1 y1 x2 y2 i n + lit 0x3089705F#32)

open Classical in
/-- The scores still in play after the best of them is taken: it and what overlaps it are out. -/
def next (x1 y1 x2 y2 : Row) (w : Row) : Row :=
  fun n => if Over x1 y1 x2 y2 (first w) n ∨ n = first w then ⊥ else w n

open Classical in
/-- A value of the box taken, when there is one to take. -/
def taken (w v : Row) : EReal := if ⊥ < w (first w) then v (first w) else 0

/-- The scores in play after `k` selections. -/
def walk (x1 y1 x2 y2 w : Row) (k : Nat) : Row := (next x1 y1 x2 y2)^[k] w

theorem walk_succ (x1 y1 x2 y2 w : Row) (k : Nat) : walk x1 y1 x2 y2 w (k + 1) = next x1 y1 x2 y2 (walk x1 y1 x2 y2 w k) :=
  Function.iterate_succ_apply' _ _ _

end Cert.Proof
-- ==== Proof.KernelIdeal.Step.lean ====
module

public import proofs.«01_k».proof.Proof.KernelIdeal.Nms
public import proofs.«01_k».proof.Proof.Spec
public import Idealize.ShloMosaic.Lib.Pointwise.Reshape
public import Idealize.ShloMosaic.Lib.Pointwise.Select

@[expose] public section

set_option maxRecDepth 16384

noncomputable section

namespace Cert.Proof.KernelIdeal

open Cert.KernelIdeal Cert.KernelIdeal.Gen Cert.Proof

open Idealize.ShloMosaic

theorem lit_bot : Ideal.ofBits .f32 0xFF800000#32 = ⊥ := by simp [Ideal.ofBits, Ideal.ieee]

/-- The places along the lanes. -/
abbrev places : IVec S8x20000 32 := iota .tc S8x20000 32 [1] iota_S8x20000_d1_w32
/-- The places of the chosen. -/
abbrev slots : IVec S8x200 32 := iota .tc S8x200 32 [1] iota_S8x200_d1_w32

/-- Image `b`'s row. -/
abbrev rowOf (v : S8x20000.Idx → Ideal .f32) (b : Fin 8) : Row := fun n => v (ix2 b n)

theorem rowMax_apply (v : S8x20000.Idx → Ideal .f32) (b : Fin 8) (z : Fin 1) :
    k1_pay2 v (ix2 b z) = rowOf v b (first (rowOf v b)) := by
  refine Eq.trans ?_ (fold_max_first (rowOf v b))
  pointwise [k1_pay2, lit_bot]

theorem places_apply (b : Fin 8) (n : Fin 20000) : places (ix2 b n) = BitVec.ofNat 32 n.val := by
  pointwise [places]

/-- The mark of the chosen box. -/
theorem mark_apply (w : S8x20000.Idx → Ideal .f32) (m : S8x1.Idx → Ideal .f32) (b : Fin 8)
    (hm : m (ix2 b 0) = rowOf w b (first (rowOf w b))) (n : Fin 20000) :
    k1_pay5 places w m (ix2 b n) = if n = first (rowOf w b) then 1#1 else 0#1 := by
  have h := fold_minsi_first (n := 20000) le_rfl (rowOf w b) (m (ix2 b 0)) hm
  pointwise [k1_pay5, places_apply]
  refine (congrArg (IntOp.cmpi .eq (BitVec.ofNat 32 n.val)) h).trans ?_
  by_cases hn : n = first (rowOf w b)
  · rw [if_pos hn, ← hn]
    exact congrArg BitVec.ofBool (beq_self_eq_true _)
  · rw [if_neg hn]
    exact congrArg BitVec.ofBool (beq_eq_false_iff_ne.mpr fun h => hn ((places_eq_iff _ _).mp h))

/-- A sum over the mark of the chosen box reads its value. -/
theorem pay6_apply (v w : S8x20000.Idx → Ideal .f32) (m : S8x1.Idx → Ideal .f32) (b : Fin 8)
    (hm : m (ix2 b 0) = rowOf w b (first (rowOf w b))) (z : Fin 1) :
    k1_pay6 v places w m (ix2 b z) = rowOf v b (first (rowOf w b)) := by
  refine Eq.trans ?_ (sum_pick (rowOf v b) (first (rowOf w b)))
  pointwise [k1_pay6, mark_apply w m b hm]
  refine Finset.sum_congr rfl fun k _ => ?_
  by_cases hk : k = first (rowOf w b)
  · rw [if_pos hk, if_pos hk]; rfl
  · rw [if_neg hk, if_neg hk]; rfl

theorem pay7_eq (v w : S8x20000.Idx → Ideal .f32) (m : S8x1.Idx → Ideal .f32) : k1_pay7 v places w m = k1_pay6 v places w m := rfl
theorem pay8_eq (v w : S8x20000.Idx → Ideal .f32) (m : S8x1.Idx → Ideal .f32) : k1_pay8 v places w m = k1_pay6 v places w m := rfl
theorem pay9_eq (v w : S8x20000.Idx → Ideal .f32) (m : S8x1.Idx → Ideal .f32) : k1_pay9 v places w m = k1_pay6 v places w m := rfl
theorem pay10_eq (v w : S8x20000.Idx → Ideal .f32) (m : S8x1.Idx → Ideal .f32) : k1_pay10 v places w m = k1_pay6 v places w m := rfl

theorem pay15_eq (v w : S8x20000.Idx → Ideal .f32) (p : IVec S8x20000 1) (q : S8x1.Idx → Ideal .f32) (r t : S8x20000.Idx → Ideal .f32) :
    k1_pay15 v w p q r t = k1_pay2 (k1_pay14 v w p q r t) := by
  unfold k1_pay15 k1_pay2; rfl

theorem select_or {α : Type} (p q : Prop) [Decidable p] [Decidable q] [Decidable (p ∨ q)] (x y : α) :
    Scalar.select (IntOp.ori (BitVec.ofBool (decide p)) (if q then 1#1 else 0#1)) x y = if p ∨ q then x else y := by
  by_cases hp : p <;> by_cases hq : q <;> simp [hp, hq, Scalar.select, IntOp.ori]

theorem select_if {α : Type} (p : Prop) [Decidable p] (x y : α) :
    Scalar.select (if p then 1#1 else 0#1) x y = if p then x else y := by
  by_cases hp : p <;> simp [hp, Scalar.select]

theorem slot_apply (k : Fin k1_t1_loop.trips) (b : Fin 8) (r : Fin 200) :
    k1_pay17 slots (Scf.iv 0#32 1#32 k) (ix2 b r) = if r.val = k.val then 1#1 else 0#1 := by
  have hk : k.val < 200 := k.2
  have hr := r.2
  have : Scf.iv 0#32 1#32 k = BitVec.ofNat 32 k.val := by
    simp [Scf.iv]
  rw [this]
  pointwise [k1_pay17]
  by_cases h : r.val = k.val
  · rw [if_pos h, h]
    exact congrArg BitVec.ofBool (beq_self_eq_true _)
  · rw [if_neg h]
    refine congrArg BitVec.ofBool (beq_eq_false_iff_ne.mpr fun h' => h ?_)
    have := congrArg BitVec.toNat h'
    rw [BitVec.toNat_ofNat, BitVec.toNat_ofNat] at this
    omega

section
variable (cl : S8x20000.Idx → Ideal .f32) (mc : S8x1.Idx → Ideal .f32) (x1 y1 x2 y2 ar : S8x20000.Idx → Ideal .f32)
  (k : Fin k1_t1_loop.trips) (a : Carry Ideal) (b : Fin 8)
  (har : ∀ n, ar (ix2 b n) = areaOf (rowOf x1 b) (rowOf y1 b) (rowOf x2 b) (rowOf y2 b) n)
  (hm : a.2.1 (ix2 b 0) = rowOf a.1 b (first (rowOf a.1 b)))
include har hm

/-- One selection leaves the scores still in play. -/
theorem trip_work : rowOf (trip cl mc x1 y1 x2 y2 ar places slots k a).1 b
    = next (rowOf x1 b) (rowOf y1 b) (rowOf x2 b) (rowOf y2 b) (rowOf a.1 b) := by
  funext n
  show (trip cl mc x1 y1 x2 y2 ar places slots k a).1 (ix2 b n) = _
  simp only [trip, pay7_eq, pay8_eq, pay9_eq, pay10_eq]
  pointwise [k1_pay14, k1_pay11, k1_pay12, k1_pay13, pay7_eq, pay8_eq, pay9_eq, pay6_apply _ _ _ b hm, mark_apply _ _ b hm, har, lit_bot]
  classical exact (select_or _ _ _ _).trans (if_congr Iff.rfl rfl rfl)

omit har hm in
/-- … with the greatest of them beside. -/
theorem trip_best : (trip cl mc x1 y1 x2 y2 ar places slots k a).2.1 = k1_pay2 (trip cl mc x1 y1 x2 y2 ar places slots k a).1 := by
  simp only [trip, pay15_eq]

omit har
/-- … writes each coordinate of the box taken, the offset taken off again, … -/
theorem trip_x1 (r : Fin 200) : (trip cl mc x1 y1 x2 y2 ar places slots k a).2.2.1 (ix2 b r)
    = if r.val = k.val then taken (rowOf a.1 b) (fun n => x1 (ix2 b n) - cl (ix2 b n) * mc (ix2 b 0)) else a.2.2.1 (ix2 b r) := by
  simp only [trip, pay7_eq, pay8_eq, pay9_eq, pay10_eq]
  pointwise [k1_pay18, k1_pay16, k1_pay4, pay6_apply _ _ _ b hm, hm, slot_apply, select_if, lit_bot]
  rfl

theorem trip_y1 (r : Fin 200) : (trip cl mc x1 y1 x2 y2 ar places slots k a).2.2.2.1 (ix2 b r)
    = if r.val = k.val then taken (rowOf a.1 b) (fun n => y1 (ix2 b n) - cl (ix2 b n) * mc (ix2 b 0)) else a.2.2.2.1 (ix2 b r) := by
  simp only [trip, pay7_eq, pay8_eq, pay9_eq, pay10_eq]
  pointwise [k1_pay19, k1_pay16, k1_pay4, pay6_apply _ _ _ b hm, hm, slot_apply, select_if, lit_bot]
  rfl

theorem trip_x2 (r : Fin 200) : (trip cl mc x1 y1 x2 y2 ar places slots k a).2.2.2.2.1 (ix2 b r)
    = if r.val = k.val then taken (rowOf a.1 b) (fun n => x2 (ix2 b n) - cl (ix2 b n) * mc (ix2 b 0)) else a.2.2.2.2.1 (ix2 b r) := by
  simp only [trip, pay7_eq, pay8_eq, pay9_eq, pay10_eq]
  pointwise [k1_pay20, k1_pay16, k1_pay4, pay6_apply _ _ _ b hm, hm, slot_apply, select_if, lit_bot]
  rfl

theorem trip_y2 (r : Fin 200) : (trip cl mc x1 y1 x2 y2 ar places slots k a).2.2.2.2.2.1 (ix2 b r)
    = if r.val = k.val then taken (rowOf a.1 b) (fun n => y2 (ix2 b n) - cl (ix2 b n) * mc (ix2 b 0)) else a.2.2.2.2.2.1 (ix2 b r) := by
  simp only [trip, pay7_eq, pay8_eq, pay9_eq, pay10_eq]
  pointwise [k1_pay21, k1_pay16, k1_pay4, pay6_apply _ _ _ b hm, hm, slot_apply, select_if, lit_bot]
  rfl

/-- … its score, … -/
theorem trip_score (r : Fin 200) : (trip cl mc x1 y1 x2 y2 ar places slots k a).2.2.2.2.2.2.1 (ix2 b r)
    = if r.val = k.val then taken (rowOf a.1 b) (rowOf a.1 b) else a.2.2.2.2.2.2.1 (ix2 b r) := by
  simp only [trip, pay7_eq, pay8_eq, pay9_eq, pay10_eq]
  pointwise [k1_pay22, k1_pay4, hm, slot_apply, select_if, lit_bot]
  rfl

/-- … and its class. -/
theorem trip_cls (r : Fin 200) : (trip cl mc x1 y1 x2 y2 ar places slots k a).2.2.2.2.2.2.2 (ix2 b r)
    = if r.val = k.val then taken (rowOf a.1 b) (fun n => cl (ix2 b n)) else a.2.2.2.2.2.2.2 (ix2 b r) := by
  simp only [trip, pay7_eq, pay8_eq, pay9_eq, pay10_eq]
  pointwise [k1_pay3, k1_pay23, k1_pay4, pay6_apply _ _ _ b hm, hm, slot_apply, select_if, lit_bot]
  rfl

end

/-- What a fold over trips keeps. -/
theorem fold_keeps {σ : Type} : ∀ {n : Nat} (g : Fin n → σ → σ) (init : σ) (P : Nat → σ → Prop), P 0 init →
    (∀ k a, P k.val a → P (k.val + 1) (g k a)) → P n ((List.finRange n).foldl (fun acc k => g k acc) init)
  | 0, _, _, _, h0, _ => by simpa using h0
  | n + 1, g, init, P, h0, hs => by
    rw [List.finRange_succ_last, List.foldl_append, List.foldl_map]
    exact hs (Fin.last n) _ (fold_keeps (fun k => g k.castSucc) init P h0 fun k a h => hs k.castSucc a h)

section
variable (cl : S8x20000.Idx → Ideal .f32) (mc : S8x1.Idx → Ideal .f32) (x1 y1 x2 y2 ar : S8x20000.Idx → Ideal .f32) (a0 : Carry Ideal) (b : Fin 8)

/-- Six values written for one chosen box. -/
structure Wrote (w : Row) (a : Carry Ideal) (r : Fin 200) : Prop where
  x1 : a.2.2.1 (ix2 b r) = taken w (fun n => x1 (ix2 b n) - cl (ix2 b n) * mc (ix2 b 0))
  y1 : a.2.2.2.1 (ix2 b r) = taken w (fun n => y1 (ix2 b n) - cl (ix2 b n) * mc (ix2 b 0))
  x2 : a.2.2.2.2.1 (ix2 b r) = taken w (fun n => x2 (ix2 b n) - cl (ix2 b n) * mc (ix2 b 0))
  y2 : a.2.2.2.2.2.1 (ix2 b r) = taken w (fun n => y2 (ix2 b n) - cl (ix2 b n) * mc (ix2 b 0))
  score : a.2.2.2.2.2.2.1 (ix2 b r) = taken w w
  cls : a.2.2.2.2.2.2.2 (ix2 b r) = taken w (fun n => cl (ix2 b n))

/-- After all selections each place holds the values of the box taken there. -/
theorem fold_trip (har : ∀ n, ar (ix2 b n) = areaOf (rowOf x1 b) (rowOf y1 b) (rowOf x2 b) (rowOf y2 b) n)
    (hm : a0.2.1 = k1_pay2 a0.1) (r : Fin 200) :
    Wrote cl mc x1 y1 x2 y2 b (walk (rowOf x1 b) (rowOf y1 b) (rowOf x2 b) (rowOf y2 b) (rowOf a0.1 b) r.val)
      (Scf.fold (trip cl mc x1 y1 x2 y2 ar places slots) a0) r := by
  rw [Scf.fold_eq]
  refine (fold_keeps (trip cl mc x1 y1 x2 y2 ar places slots) a0 (fun k a =>
    rowOf a.1 b = walk (rowOf x1 b) (rowOf y1 b) (rowOf x2 b) (rowOf y2 b) (rowOf a0.1 b) k ∧ a.2.1 = k1_pay2 a.1 ∧
      ∀ r : Fin 200, r.val < k →
        Wrote cl mc x1 y1 x2 y2 b (walk (rowOf x1 b) (rowOf y1 b) (rowOf x2 b) (rowOf y2 b) (rowOf a0.1 b) r.val) a r)
    ⟨rfl, hm, fun r h => absurd h (Nat.not_lt_zero _)⟩ ?_).2.2 r r.2
  rintro k a ⟨hw, hb, hr⟩
  have hb' : a.2.1 (ix2 b 0) = rowOf a.1 b (first (rowOf a.1 b)) := by rw [hb]; exact rowMax_apply _ b 0
  refine ⟨?_, trip_best .., fun r h => ?_⟩
  · rw [trip_work cl mc x1 y1 x2 y2 ar k a b har hb', hw, walk_succ]
  · constructor
    · rw [trip_x1 cl mc x1 y1 x2 y2 ar k a b hb']
      split
      · rename_i h'; rw [hw, h']
      · exact (hr r (by omega)).x1
    · rw [trip_y1 cl mc x1 y1 x2 y2 ar k a b hb']
      split
      · rename_i h'; rw [hw, h']
      · exact (hr r (by omega)).y1
    · rw [trip_x2 cl mc x1 y1 x2 y2 ar k a b hb']
      split
      · rename_i h'; rw [hw, h']
      · exact (hr r (by omega)).x2
    · rw [trip_y2 cl mc x1 y1 x2 y2 ar k a b hb']
      split
      · rename_i h'; rw [hw, h']
      · exact (hr r (by omega)).y2
    · rw [trip_score cl mc x1 y1 x2 y2 ar k a b hb']
      split
      · rename_i h'; rw [hw, h']
      · exact (hr r (by omega)).score
    · rw [trip_cls cl mc x1 y1 x2 y2 ar k a b hb']
      split
      · rename_i h'; rw [hw, h']
      · exact (hr r (by omega)).cls

end

end Cert.Proof.KernelIdeal
-- ==== Proof.Scene.lean ====
module

public import proofs.«01_k».proof.Proof.Spec
public import proofs.«01_k».proof.Proof.First

@[expose] public section

noncomputable section

namespace Cert.Proof

open Idealize.ShloMosaic

/-! ## What one image's arrays mean, before any box is taken -/

/-- The softmax share of class `j` among an anchor's logits, the background class left off. -/
def share (l : Fin 81 → EReal) (j : Fin 80) : EReal :=
  Ideal.div (Ideal.exp (l j.succ - l (first l))) (∑ k, Ideal.exp (l k - l (first l)))

/-- An anchor's greatest share, and its class. -/
def bestScore (l : Fin 81 → EReal) : EReal := share l (first (share l))
def bestClass (l : Fin 81 → EReal) : EReal := (((first (share l)).val : ℝ) : EReal)

/-- A box's extent, and its lower and upper end, along one axis. -/
def extent (s w : EReal) : EReal := w * Ideal.exp (s * lit 0x3E4CCCCD#32)
def lower (o s p w : EReal) : EReal := p + o * lit 0x3DCCCCCD#32 * w - Ideal.div (extent s w) (lit 0x40000000#32)
def upper (o s p w : EReal) : EReal := lower o s p w + extent s w

/-- The four coordinates of an image's boxes: `o` its offsets and `p` the priors. -/
def coord (o p : Fin 20000 → Fin 4 → EReal) : Fin 4 → Row :=
  ![fun n => lower (o n 0) (o n 2) (p n 0) (p n 2), fun n => lower (o n 1) (o n 3) (p n 1) (p n 3),
    fun n => upper (o n 0) (o n 2) (p n 0) (p n 2), fun n => upper (o n 1) (o n 3) (p n 1) (p n 3)]

/-- One more than the greatest coordinate. -/
def reach (q : Fin 4 → Row) : EReal :=
  max (max (q 0 (first (q 0))) (q 1 (first (q 1)))) (max (q 2 (first (q 2))) (q 3 (first (q 3)))) + 1

/-- The coordinates moved apart by class. -/
def spread (q : Fin 4 → Row) (k : Row) (c : Fin 4) : Row := fun n => q c n + k n * reach q

/-- The scores at the start: those at the threshold or under are out of play. -/
def opening (s : Row) : Row := fun n => if lit 0x3C23D70A#32 < s n then s n else ⊥

/-- The greatest of all four coordinates, taken at once. -/
theorem fold_max_four {N : Nat} [NeZero N] (q : Fin 4 → Fin N → EReal) :
    (Finset.univ : Finset (Fin N × Fin 4)).fold max ⊥ (fun i => q i.2 i.1)
      = max (max (q 0 (first (q 0))) (q 1 (first (q 1)))) (max (q 2 (first (q 2))) (q 3 (first (q 3)))) := by
  have hle : ∀ c n, q c n ≤ q c (first (q c)) := fun c n => (first_spec (q c)).1 n
  apply le_antisymm
  · rw [Finset.fold_max_le]
    refine ⟨bot_le, fun i _ => ?_⟩
    obtain ⟨n, c⟩ := i
    refine (hle c n).trans ?_
    match c with
    | 0 => exact le_max_of_le_left (le_max_left _ _)
    | 1 => exact le_max_of_le_left (le_max_right _ _)
    | 2 => exact le_max_of_le_right (le_max_left _ _)
    | 3 => exact le_max_of_le_right (le_max_right _ _)
  · have h : ∀ c, q c (first (q c)) ≤ (Finset.univ : Finset (Fin N × Fin 4)).fold max ⊥ (fun i => q i.2 i.1) := fun c => by
      rw [Finset.le_fold_max]
      exact Or.inr ⟨(first (q c), c), Finset.mem_univ _, le_rfl⟩
    exact max_le (max_le (h 0) (h 1)) (max_le (h 2) (h 3))

end Cert.Proof
-- ==== Proof.KernelIdeal.Reads.lean ====
module

public import proofs.«01_k».proof.Proof.KernelIdeal.NmsRegion
public import proofs.«01_k».proof.Proof.KernelIdeal.Step
public import proofs.«01_k».proof.Proof.Scene
public import Idealize.ShloMosaic.Lib.Pointwise

@[expose] public section

set_option maxRecDepth 16384

noncomputable section

namespace Cert.Proof.KernelIdeal

open Cert.KernelIdeal Cert.KernelIdeal.Gen Cert.Proof

open Idealize.ShloMosaic

section
variable (x0 : S4x8x20000.Idx → Ideal .f32) (x1 : S4x1x20000.Idx → Ideal .f32) (x2 x3 : S8x20000.Idx → Ideal .f32) (b : Fin 8)

/-- An image's offsets, and the priors, as the kernel's planes hold them. -/
abbrev kOffs : Fin 20000 → Fin 4 → EReal := fun n k => x0 (ix3 k b n)
abbrev kPris : Fin 20000 → Fin 4 → EReal := fun n k => x1 (ix3 k 0 n)

theorem centreX_apply (n : Fin 20000) : centreX x0 x1 (ix2 b n) = kPris x1 n 0 + kOffs x0 b n 0 * lit 0x3DCCCCCD#32 * kPris x1 n 2 := by
  unfold centreX
  pointwise [k1_pay27, k1_pay25, plane, prior]
theorem centreY_apply (n : Fin 20000) : centreY x0 x1 (ix2 b n) = kPris x1 n 1 + kOffs x0 b n 1 * lit 0x3DCCCCCD#32 * kPris x1 n 3 := by
  unfold centreY
  pointwise [k1_pay28, k1_pay26, plane, prior]
theorem width_apply (n : Fin 20000) : width x0 x1 (ix2 b n) = extent (kOffs x0 b n 2) (kPris x1 n 2) := by
  unfold width extent
  pointwise [k1_pay29, k1_pay25, plane, prior]
theorem height_apply (n : Fin 20000) : k1_pay30 (lastOff x0) (lastPri x1) (ix2 b n) = extent (kOffs x0 b n 3) (kPris x1 n 3) := by
  unfold lastOff lastPri extent
  pointwise [k1_pay30, k1_pay24, k1_pay26, plane, prior]

theorem plain_0 (n : Fin 20000) : k1_pay31 (centreX x0 x1) (width x0 x1) (ix2 b n) = coord (kOffs x0 b) (kPris x1) 0 n := by
  show _ = lower _ _ _ _
  unfold lower
  pointwise [k1_pay31, centreX_apply, width_apply]
theorem plain_1 (n : Fin 20000) : k1_pay32 (lastOff x0) (lastPri x1) (centreY x0 x1) (ix2 b n) = coord (kOffs x0 b) (kPris x1) 1 n := by
  show _ = lower _ _ _ _
  unfold lower
  pointwise [k1_pay32, centreY_apply, height_apply]
theorem plain_2 (n : Fin 20000) : k1_pay33 (centreX x0 x1) (width x0 x1) (ix2 b n) = coord (kOffs x0 b) (kPris x1) 2 n := by
  show _ = upper _ _ _ _
  unfold upper
  pointwise [k1_pay33, plain_0, width_apply]
  rfl
theorem plain_3 (n : Fin 20000) : k1_pay34 (lastOff x0) (lastPri x1) (centreY x0 x1) (ix2 b n) = coord (kOffs x0 b) (kPris x1) 3 n := by
  show _ = upper _ _ _ _
  unfold upper
  pointwise [k1_pay34, plain_1, height_apply]
  rfl

theorem largest (p q r s : S8x1.Idx → Ideal .f32) (j : S8x1.Idx) :
    addf (maximumf (maximumf p q) (maximumf r s)) (broadcast S8x1 (Scalar.ofBits (F := Ideal) .f32 0x3F800000#32)) j
      = max (max (p j) (q j)) (max (r j) (s j)) + 1 := by
  show max (max (p j) (q j)) (max (r j) (s j)) + Ideal.ofBits .f32 0x3F800000#32 = _
  congr 1
  simp [Ideal.ofBits, Ideal.ieee]
  rw [← EReal.coe_mul]
  norm_num

theorem unitOff_apply (z : Fin 1) : unitOff x0 x1 (ix2 b z) = reach (coord (kOffs x0 b) (kPris x1)) := by
  have e : unitOff x0 x1 = addf (maximumf (maximumf (k1_pay2 (k1_pay31 (centreX x0 x1) (width x0 x1))) (k1_pay2 (k1_pay32 (lastOff x0) (lastPri x1) (centreY x0 x1))))
      (maximumf (k1_pay2 (k1_pay33 (centreX x0 x1) (width x0 x1))) (k1_pay2 (k1_pay34 (lastOff x0) (lastPri x1) (centreY x0 x1)))))
      (broadcast S8x1 (Scalar.ofBits (F := Ideal) .f32 0x3F800000#32)) := by
    unfold unitOff k1_pay36 k1_pay2
    rfl
  have r0 : rowOf (k1_pay31 (centreX x0 x1) (width x0 x1)) b = coord (kOffs x0 b) (kPris x1) 0 := funext fun n => plain_0 x0 x1 b n
  have r1 : rowOf (k1_pay32 (lastOff x0) (lastPri x1) (centreY x0 x1)) b = coord (kOffs x0 b) (kPris x1) 1 := funext fun n => plain_1 x0 x1 b n
  have r2 : rowOf (k1_pay33 (centreX x0 x1) (width x0 x1)) b = coord (kOffs x0 b) (kPris x1) 2 := funext fun n => plain_2 x0 x1 b n
  have r3 : rowOf (k1_pay34 (lastOff x0) (lastPri x1) (centreY x0 x1)) b = coord (kOffs x0 b) (kPris x1) 3 := funext fun n => plain_3 x0 x1 b n
  rw [e, largest, rowMax_apply, rowMax_apply, rowMax_apply, rowMax_apply, r0, r1, r2, r3]
  rfl

/-- What the boxes are moved by. -/
theorem shift_apply (n : Fin 20000) :
    k1_pay37 (lastOff x0) (lastPri x1) (centreX x0 x1) (centreY x0 x1) (width x0 x1) x3 (ix2 b n)
      = x3 (ix2 b n) * reach (coord (kOffs x0 b) (kPris x1)) := by
  have e : k1_pay36 (lastOff x0) (lastPri x1) (centreX x0 x1) (centreY x0 x1) (width x0 x1) = unitOff x0 x1 := rfl
  unfold k1_pay37
  rw [e]
  pointwise [k1_pay35, unitOff_apply]

theorem boxX1_row : rowOf (boxX1 x0 x1 x3) b = spread (coord (kOffs x0 b) (kPris x1)) (rowOf x3 b) 0 := by
  funext n
  unfold boxX1
  pointwise [k1_pay38, plain_0, shift_apply]
  rfl
theorem boxY1_row : rowOf (boxY1 x0 x1 x3) b = spread (coord (kOffs x0 b) (kPris x1)) (rowOf x3 b) 1 := by
  funext n
  unfold boxY1
  pointwise [k1_pay39, plain_1, shift_apply]
  rfl
theorem boxX2_row : rowOf (boxX2 x0 x1 x3) b = spread (coord (kOffs x0 b) (kPris x1)) (rowOf x3 b) 2 := by
  funext n
  unfold boxX2
  pointwise [k1_pay40, plain_2, shift_apply]
  rfl
theorem boxY2_row : rowOf (boxY2 x0 x1 x3) b = spread (coord (kOffs x0 b) (kPris x1)) (rowOf x3 b) 3 := by
  funext n
  unfold boxY2
  pointwise [k1_pay41, plain_3, shift_apply]
  rfl

theorem boxArea_apply (n : Fin 20000) : boxArea x0 x1 x3 (ix2 b n)
    = areaOf (rowOf (boxX1 x0 x1 x3) b) (rowOf (boxY1 x0 x1 x3) b) (rowOf (boxX2 x0 x1 x3) b) (rowOf (boxY2 x0 x1 x3) b) n := rfl

theorem work0_row : rowOf (work0 x2) b = opening (rowOf x2 b) := by
  funext n
  unfold work0 opening
  pointwise [k1_pay43, lit_bot]

end

end Cert.Proof.KernelIdeal
-- ==== Proof.Shares.lean ====
module

public import proofs.«01_k».proof.Proof.Scene
public import Mathlib.Analysis.SpecialFunctions.Exp

@[expose] public section

noncomputable section

namespace Cert.Proof

open Idealize.ShloMosaic

/-- A value that is a real number. -/
def IsReal (x : EReal) : Prop := ∃ r : ℝ, x = (r : EReal)

theorem coe_sum_real {n : Nat} (f : Fin n → ℝ) : (∑ k, ((f k : ℝ) : EReal)) = ((∑ k, f k : ℝ) : EReal) := by
  induction n with
  | zero => simp
  | succ n ih => rw [Fin.sum_univ_succ, Fin.sum_univ_succ, EReal.coe_add, ih]

theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem exp_real (a : ℝ) : Ideal.exp (a : EReal) = ((Real.exp a : ℝ) : EReal) := rfl

/-- What keeps the order keeps the first greatest place. -/
theorem first_mono {n : Nat} [NeZero n] (v s : Fin n → EReal) (h : ∀ i j, v i < v j → s i < s j) (h' : ∀ i j, v i ≤ v j → s i ≤ s j) :
    first s = first v :=
  (IsFirst.eq_first (v := s) ⟨fun j => h' _ _ ((first_spec v).1 j), fun j hj => h _ _ ((first_spec v).2 j hj)⟩).symm

/-- When all the differences to the greatest logit are at the bottom, no class has a share. -/
theorem share_none (l : Fin 81 → EReal) (h : ∀ k, l k - l (first l) = ⊥) (j : Fin 80) : share l j = ⊥ := by
  have e : Ideal.exp ⊥ = 0 := rfl
  unfold share
  simp only [h, e, Finset.sum_const_zero]
  unfold Ideal.div
  rw [if_pos rfl, if_neg (lt_irrefl _)]

/-- The exponential of a logit that is a real number or the bottom. -/
theorem power_real (x : EReal) (hx : x ≠ ⊤) (t : ℝ) :
    ∃ e : ℝ, Ideal.exp (x - (t : EReal)) = (e : EReal) ∧ 0 ≤ e ∧ ∀ y : EReal, y ≠ ⊤ → ∀ f : ℝ, Ideal.exp (y - (t : EReal)) = (f : EReal) → x < y → e < f := by
  induction x with
  | top => exact absurd rfl hx
  | bot =>
    refine ⟨0, by rw [EReal.bot_sub]; rfl, le_rfl, fun y hy f hf hl => ?_⟩
    lift y to ℝ using ⟨hy, hl.ne'⟩
    rw [← EReal.coe_sub, exp_real, EReal.coe_eq_coe_iff] at hf
    rw [← hf]
    exact Real.exp_pos _
  | coe r =>
    refine ⟨Real.exp (r - t), by rw [← EReal.coe_sub, exp_real], (Real.exp_pos _).le, fun y hy f hf hl => ?_⟩
    lift y to ℝ using ⟨hy, ((EReal.bot_lt_coe r).trans hl).ne'⟩
    rw [← EReal.coe_sub, exp_real, EReal.coe_eq_coe_iff] at hf
    rw [← hf]
    exact Real.exp_lt_exp.mpr (by have := EReal.coe_lt_coe_iff.mp hl; linarith)

/-- The greatest share is at the first greatest logit, unless no class has a share. -/
theorem first_share (l : Fin 81 → EReal) : first (share l) = first (fun j : Fin 80 => l j.succ) ∨ ∀ j, share l j = ⊥ := by
  have hle := (first_spec l).1
  generalize ht : l (first l) = t at hle
  induction t with
  | top => exact Or.inr (share_none l fun k => by rw [ht, sub_eq_add_neg, EReal.neg_top, EReal.add_bot])
  | bot => exact Or.inr (share_none l fun k => by rw [le_bot_iff.mp (hle k), EReal.bot_sub])
  | coe t =>
    left
    have hn : ∀ k, l k ≠ ⊤ := fun k h => by have := hle k; rw [h] at this; exact absurd (top_le_iff.mp this) (EReal.coe_ne_top t)
    choose e he h0 hlt using fun k => power_real (l k) (hn k) t
    have h1 : 0 < e (first l) := by
      have := he (first l)
      rw [ht, ← EReal.coe_sub, exp_real, EReal.coe_eq_coe_iff] at this
      rw [← this]
      exact Real.exp_pos _
    have hz : 0 < ∑ k, e k := Finset.sum_pos' (fun k _ => h0 k) ⟨first l, Finset.mem_univ _, h1⟩
    have hs : ∀ j, share l j = ((e j.succ / ∑ k, e k : ℝ) : EReal) := fun j => by
      unfold share
      simp only [ht, he]
      rw [coe_sum_real, div_real _ _ hz.ne']
    have hm : ∀ i j : Fin 80, l i.succ < l j.succ → e i.succ < e j.succ := fun i j h => hlt _ _ (hn _) _ (he _) h
    refine first_mono _ _ (fun i j hij => ?_) (fun i j hij => ?_)
    · rw [hs, hs, EReal.coe_lt_coe_iff]
      exact div_lt_div_of_pos_right (hm i j hij) hz
    · rw [hs, hs, EReal.coe_le_coe_iff]
      refine div_le_div_of_nonneg_right ?_ hz.le
      rcases hij.lt_or_eq with h | h
      · exact (hm i j h).le
      · have := he i.succ
        rw [h, he, EReal.coe_eq_coe_iff] at this
        exact this.ge

/-- The greatest of all logits is the background's or the greatest of the others. -/
theorem top_first (l : Fin 81 → EReal) :
    max (l (first fun j : Fin 80 => l j.succ).succ) (l 0) = l (first l) := by
  apply le_antisymm
  · exact max_le ((first_spec l).1 _) ((first_spec l).1 _)
  · obtain h | ⟨j, h⟩ := Fin.eq_zero_or_eq_succ (first l)
    · rw [h]; exact le_max_right _ _
    · rw [h]; exact le_max_of_le_left ((first_spec fun j : Fin 80 => l j.succ).1 j)

end Cert.Proof
-- ==== Proof.KernelIdeal.LaneValue.lean ====
module

public import proofs.«01_k».proof.Proof.KernelIdeal.Lanes
public import proofs.«01_k».proof.Proof.Shares

@[expose] public section

set_option maxRecDepth 16384

noncomputable section

namespace Cert.Proof.KernelIdeal

open Cert.Proof
open Idealize.ShloMosaic

/-- The parts of a small whole number's pattern. -/
theorem word_parts : ∀ n : Fin 80, n.val ≠ 0 →
    (word n.val).extractLsb' 31 1 = 0#1 ∧ ((word n.val).extractLsb' 23 8).toNat ≠ 255 ∧ ((word n.val).extractLsb' 23 8).toNat ≠ 0
      ∧ (2 ^ 23 + ((word n.val).extractLsb' 0 23).toNat) * 2 ^ ((word n.val).extractLsb' 23 8).toNat = n.val * 2 ^ 150 := by
  decide +kernel

theorem word_value (n : Fin 80) : Ideal.ofBits .f32 (word n.val) = ((n.val : ℝ) : EReal) := by
  by_cases h0 : n.val = 0
  · rw [h0]; simp [word, Ideal.ofBits, Ideal.ieee]
  obtain ⟨h1, h2, h3, h4⟩ := word_parts n h0
  show Ideal.ieee 8 23 (word n.val) = _
  unfold Ideal.ieee
  simp only [show 8 + 23 = 31 from rfl, h1]
  rw [if_neg (by simpa using h2), if_neg h3]
  congr 1
  have h5 : ((2 ^ 23 + ((word n.val).extractLsb' 0 23).toNat : Nat) : ℝ) * 2 ^ ((word n.val).extractLsb' 23 8).toNat = n.val * 2 ^ 150 := by
    exact_mod_cast h4
  rw [sub_sub, zpow_sub₀ (by norm_num), zpow_natCast]
  norm_num
  norm_num at h5
  rw [← mul_div_assoc, h5]
  norm_num

theorem zFrom_sum (x : Fin 81 → EReal) (t : EReal) : ∀ m, (h : m ≤ 81) →
    zFrom (F := Ideal) x t 0 m (Scalar.ofBits .f32 0x00000000#32) = ∑ k : Fin m, Ideal.exp (x (Fin.castLE h k) - t)
  | 0, _ => by show Ideal.ofBits .f32 0x00000000#32 = _; simp [Ideal.ofBits, Ideal.ieee]
  | m + 1, h => by
    rw [Fin.sum_univ_castSucc]
    have e : Fin.ofNat 81 (0 + m) = Fin.castLE h (Fin.last m) := Fin.ext (by simp [Nat.mod_eq_of_lt (show m < 81 by omega)])
    show zFrom (F := Ideal) x t 0 m _ + Ideal.exp (x (Fin.ofNat 81 (0 + m)) - t) = _
    rw [zFrom_sum x t m (by omega), e]
    rfl

theorem scalar_bits (b : BitVec 32) : Scalar.ofBits (F := Ideal) .f32 b = Ideal.ofBits .f32 b := rfl

theorem select_lt {α : Type} (a b : EReal) (x y : α) :
    Scalar.select (FloatOps.cmpf (F := Ideal) (φ := .f32) .ogt a b) x y = if b < a then x else y := by
  show Scalar.select (BitVec.ofBool (decide (b < a))) x y = _
  by_cases h : b < a
  · rw [if_pos h, decide_eq_true h]; rfl
  · rw [if_neg h, decide_eq_false h]; rfl

theorem better_eq (x : Fin 81 → EReal) (n : Nat) (p : EReal × EReal) :
    better (F := Ideal) x n p = if p.2 < x (Fin.ofNat 81 (n + 2)) then (Ideal.ofBits .f32 (word (n + 1)), x (Fin.ofNat 81 (n + 2))) else p := by
  unfold better
  rw [select_lt, select_lt, scalar_bits]
  split <;> rfl

/-- The best of the first classes is the first greatest of them. -/
theorem bestFrom_first (x : Fin 81 → EReal) (p : EReal × EReal) (hp : p = (Ideal.ofBits .f32 (word (0 : Fin 80).val), x (0 : Fin 80).succ)) :
    ∀ m, m ≤ 79 → ∃ i : Fin 80, i.val ≤ m ∧ bestFrom (F := Ideal) x 0 m p = (Ideal.ofBits .f32 (word i.val), x i.succ)
      ∧ (∀ j : Fin 80, j.val ≤ m → x j.succ ≤ x i.succ) ∧ ∀ j : Fin 80, j < i → x j.succ < x i.succ
  | 0, _ => ⟨0, le_rfl, hp, fun j hj => by rw [show j = 0 from Fin.ext (by simpa using hj)], fun j hj => absurd hj (by simp)⟩
  | m + 1, h => by
    obtain ⟨i, hi, he, hle, hlt⟩ := bestFrom_first x p hp m (by omega)
    have e : Fin.ofNat 81 (0 + m + 2) = (⟨m + 1, by omega⟩ : Fin 80).succ := Fin.ext (by simp [Nat.mod_eq_of_lt (show m + 2 < 81 by omega)])
    have hb : bestFrom (F := Ideal) x 0 (m + 1) p = better (F := Ideal) x (0 + m) (Ideal.ofBits .f32 (word i.val), x i.succ) :=
      congrArg (better (F := Ideal) x (0 + m)) he
    rw [better_eq, e, Nat.zero_add] at hb
    by_cases hx : x i.succ < x (⟨m + 1, by omega⟩ : Fin 80).succ
    · refine ⟨⟨m + 1, by omega⟩, le_rfl, hb.trans (if_pos hx), fun j hj => ?_, fun j hj => ?_⟩
      · by_cases hm : j.val ≤ m
        · exact (hle j hm).trans hx.le
        · rw [show j = ⟨m + 1, by omega⟩ from Fin.ext (by simp; omega)]
      · exact (hle j (by have := Fin.lt_def.mp hj; simp at this; omega)).trans_lt hx
    · refine ⟨i, by omega, hb.trans (if_neg hx), fun j hj => ?_, hlt⟩
      by_cases hm : j.val ≤ m
      · exact hle j hm
      · rw [show j = ⟨m + 1, by omega⟩ from Fin.ext (by simp; omega)]
        exact not_lt.mp hx

theorem best_eq (x : Fin 81 → EReal) :
    best (F := Ideal) x = ((((first fun j : Fin 80 => x j.succ).val : ℝ) : EReal), x (first fun j : Fin 80 => x j.succ).succ) := by
  obtain ⟨i, -, he, hle, hlt⟩ := bestFrom_first x (Scalar.ofBits (F := Ideal) .f32 (word 0), x (Fin.ofNat 81 1)) (by rw [scalar_bits]; rfl) 79 le_rfl
  have hi : i = first fun j : Fin 80 => x j.succ := IsFirst.eq_first ⟨fun j => hle j (by omega), hlt⟩
  rw [word_value, hi] at he
  exact he

theorem top_eq (x : Fin 81 → EReal) : top (F := Ideal) x = x (first x) := by
  show max (best (F := Ideal) x).2 (x 0) = _
  rw [best_eq]
  exact top_first x

theorem laneScore_eq (x : Fin 81 → EReal) : laneScore (F := Ideal) x = bestScore x := by
  have h : laneScore (F := Ideal) x = share x (first fun j : Fin 80 => x j.succ) := by
    show Ideal.div (Ideal.exp ((best (F := Ideal) x).2 - top (F := Ideal) x)) (zFrom (F := Ideal) x (top (F := Ideal) x) 0 81 _) = _
    rw [zFrom_sum x _ 81 le_rfl, top_eq, best_eq]
    rfl
  rw [h]
  unfold bestScore
  rcases first_share x with e | e
  · rw [e]
  · rw [e, e]

/-- The class is a number, and the greatest share's unless no class has a share. -/
theorem laneCls_eq (x : Fin 81 → EReal) : laneCls (F := Ideal) x = bestClass x ∨ bestScore x = ⊥ := by
  rcases first_share x with e | e
  · left
    show (best (F := Ideal) x).1 = _
    rw [best_eq]
    unfold bestClass
    rw [e]
  · exact Or.inr (e _)

theorem laneCls_real (x : Fin 81 → EReal) : IsReal (laneCls (F := Ideal) x) :=
  ⟨_, (congrArg Prod.fst (best_eq x) : (best (F := Ideal) x).1 = _)⟩

end Cert.Proof.KernelIdeal
-- ==== Proof.KernelIdeal.Value.lean ====
module

public import proofs.«01_k».proof.Proof.Gen.KernelIdeal.Launch
public import proofs.«01_k».proof.Proof.Gen.KernelIdeal.Regions
public import proofs.«01_k».proof.Proof.KernelIdeal.NmsRegion
public import proofs.«01_k».proof.Proof.Gen.KernelIdeal.Points
public import proofs.«01_k».proof.Proof.Gen.KernelIdeal.Skeleton
public import Idealize.ShloMosaic.Lib.Pipeline.RegionArraysS
public import Idealize.ShloMosaic.Lib.Pipeline.FrameBody
public import Idealize.ShloMosaic.Lib.Tactic
public import Idealize.ShloMosaic.Lib.StableHlo.RunClose
public import Idealize.ShloMosaic.Lib.VecWindow
public import Idealize.ShloMosaic.Lib.Pointwise.Tactic
public import proofs.«01_k».proof.Proof.KernelIdeal.Frame

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg HostSeg RegionSeg Dat Cfg Window BodyObligation BodyObligationLoose cellOf)

variable {F : FTy → Type} [FloatOps F]

local notation "𝕄" => MT nD τ sig Unit (Elt F) ℕ (UR sig nD τ) ℕ

/-! ## What the run leaves in the result -/

section Ends
variable (V : Dev nD → Valuation τ sig (Elt F)) (c : Dev nD)

/-- The one trip of the second region. -/
abbrev only : Fin cfg1.N := ⟨0, by decide⟩

/-- An index of a whole window lies in its block. -/
theorem in_whole (p : S8x200.Idx) (a : Fin 2) : 0 * S8x200.size a ≤ (p a).val ∧ (p a).val < 0 * S8x200.size a + S8x200.size a := by
  simp only [Nat.zero_mul, Nat.zero_add]
  exact ⟨Nat.zero_le _, (p a).isLt⟩

theorem ends_4 : (dat1 V c).arrAt (4 : Fin 10) cfg1.N = (ends V c).2.2.1 := by
  refine (dat1 V c).arrAt_eq_of_cover (4 : Fin 10) (ends V c).2.2.1 (fun t _ => ?_) (fun p => ⟨only, flush1_4 _, ?_⟩)
  · show _ = (win1_4.blk t).view.read (Elt F) _
    rw [blk_whole]; rfl
  · show p ∈ ((View.whole main_v5_0).slice (win1_4.rect only)).set
    rw [View.set_slice_whole, Rect.mem_set_unit]; exact in_whole p
theorem ends_5 : (dat1 V c).arrAt (5 : Fin 10) cfg1.N = (ends V c).2.2.2.1 := by
  refine (dat1 V c).arrAt_eq_of_cover (5 : Fin 10) (ends V c).2.2.2.1 (fun t _ => ?_) (fun p => ⟨only, flush1_5 _, ?_⟩)
  · show _ = (win1_5.blk t).view.read (Elt F) _
    rw [blk_whole]; rfl
  · show p ∈ ((View.whole main_v5_1).slice (win1_5.rect only)).set
    rw [View.set_slice_whole, Rect.mem_set_unit]; exact in_whole p
theorem ends_6 : (dat1 V c).arrAt (6 : Fin 10) cfg1.N = (ends V c).2.2.2.2.1 := by
  refine (dat1 V c).arrAt_eq_of_cover (6 : Fin 10) (ends V c).2.2.2.2.1 (fun t _ => ?_) (fun p => ⟨only, flush1_6 _, ?_⟩)
  · show _ = (win1_6.blk t).view.read (Elt F) _
    rw [blk_whole]; rfl
  · show p ∈ ((View.whole main_v5_2).slice (win1_6.rect only)).set
    rw [View.set_slice_whole, Rect.mem_set_unit]; exact in_whole p
theorem ends_7 : (dat1 V c).arrAt (7 : Fin 10) cfg1.N = (ends V c).2.2.2.2.2.1 := by
  refine (dat1 V c).arrAt_eq_of_cover (7 : Fin 10) (ends V c).2.2.2.2.2.1 (fun t _ => ?_) (fun p => ⟨only, flush1_7 _, ?_⟩)
  · show _ = (win1_7.blk t).view.read (Elt F) _
    rw [blk_whole]; rfl
  · show p ∈ ((View.whole main_v5_3).slice (win1_7.rect only)).set
    rw [View.set_slice_whole, Rect.mem_set_unit]; exact in_whole p
theorem ends_8 : (dat1 V c).arrAt (8 : Fin 10) cfg1.N = (ends V c).2.2.2.2.2.2.1 := by
  refine (dat1 V c).arrAt_eq_of_cover (8 : Fin 10) (ends V c).2.2.2.2.2.2.1 (fun t _ => ?_) (fun p => ⟨only, flush1_8 _, ?_⟩)
  · show _ = (win1_8.blk t).view.read (Elt F) _
    rw [blk_whole]; rfl
  · show p ∈ ((View.whole main_v5_4).slice (win1_8.rect only)).set
    rw [View.set_slice_whole, Rect.mem_set_unit]; exact in_whole p
theorem ends_9 : (dat1 V c).arrAt (9 : Fin 10) cfg1.N = (ends V c).2.2.2.2.2.2.2 := by
  refine (dat1 V c).arrAt_eq_of_cover (9 : Fin 10) (ends V c).2.2.2.2.2.2.2 (fun t _ => ?_) (fun p => ⟨only, flush1_9 _, ?_⟩)
  · show _ = (win1_9.blk t).view.read (Elt F) _
    rw [blk_whole]; rfl
  · show p ∈ ((View.whole main_v5_5).slice (win1_9.rect only)).set
    rw [View.set_slice_whole, Rect.mem_set_unit]; exact in_whole p
end Ends

/-- The second region's state at the end, of the contents at launch. -/
def final (m : (ℓ : Loc nD τ sig) → Buf (Elt F) ℓ) (c : Dev nD) : Carry F := ends (X2 m) c

variable (m : (ℓ : Loc nD τ sig) → Buf (Elt F) ℓ)

theorem X3_v5_0 (c : Dev nD) : X3 m c (Proc.devRef .tc main_v5_0) = (final m c).2.2.1 :=
  (Pipeline.afterRegion_arr (dat1 (X2 m) c) (X2 m c) launch1.win.arr_inj (4 : Fin 10)).trans (ends_4 (X2 m) c)
theorem X3_v5_1 (c : Dev nD) : X3 m c (Proc.devRef .tc main_v5_1) = (final m c).2.2.2.1 :=
  (Pipeline.afterRegion_arr (dat1 (X2 m) c) (X2 m c) launch1.win.arr_inj (5 : Fin 10)).trans (ends_5 (X2 m) c)
theorem X3_v5_2 (c : Dev nD) : X3 m c (Proc.devRef .tc main_v5_2) = (final m c).2.2.2.2.1 :=
  (Pipeline.afterRegion_arr (dat1 (X2 m) c) (X2 m c) launch1.win.arr_inj (6 : Fin 10)).trans (ends_6 (X2 m) c)
theorem X3_v5_3 (c : Dev nD) : X3 m c (Proc.devRef .tc main_v5_3) = (final m c).2.2.2.2.2.1 :=
  (Pipeline.afterRegion_arr (dat1 (X2 m) c) (X2 m c) launch1.win.arr_inj (7 : Fin 10)).trans (ends_7 (X2 m) c)
theorem X3_v5_4 (c : Dev nD) : X3 m c (Proc.devRef .tc main_v5_4) = (final m c).2.2.2.2.2.2.1 :=
  (Pipeline.afterRegion_arr (dat1 (X2 m) c) (X2 m c) launch1.win.arr_inj (8 : Fin 10)).trans (ends_8 (X2 m) c)
theorem X3_v5_5 (c : Dev nD) : X3 m c (Proc.devRef .tc main_v5_5) = (final m c).2.2.2.2.2.2.2 :=
  (Pipeline.afterRegion_arr (dat1 (X2 m) c) (X2 m c) launch1.win.arr_inj (9 : Fin 10)).trans (ends_9 (X2 m) c)
theorem X2_v4_0 (c : Dev nD) : X2 m c (Proc.devRef .tc main_v4_0) = scoreOf (logits (V1 m) c) :=
  (Pipeline.afterRegion_arr (dat0 (V1 m) c) (V1 m c) launch0.win.arr_inj (1 : Fin 3)).trans (scores_end (V1 m) c)
theorem X2_v4_1 (c : Dev nD) : X2 m c (Proc.devRef .tc main_v4_1) = clsOf (logits (V1 m) c) :=
  (Pipeline.afterRegion_arr (dat0 (V1 m) c) (V1 m c) launch0.win.arr_inj (2 : Fin 3)).trans (classes_end (V1 m) c)

/-- The six coordinates' planes side by side. -/
def joined (a : Carry F) : S8x200x6.Idx → F .f32 :=
  concatenate S8x200x6 2 [⟨S8x200x1, broadcastInDim S8x200x1 ![0, 1] bcast_S8x200_S8x200x1_0_1 a.2.2.1⟩,
    ⟨S8x200x1, broadcastInDim S8x200x1 ![0, 1] bcast_S8x200_S8x200x1_0_1 a.2.2.2.1⟩,
    ⟨S8x200x1, broadcastInDim S8x200x1 ![0, 1] bcast_S8x200_S8x200x1_0_1 a.2.2.2.2.1⟩,
    ⟨S8x200x1, broadcastInDim S8x200x1 ![0, 1] bcast_S8x200_S8x200x1_0_1 a.2.2.2.2.2.1⟩,
    ⟨S8x200x1, broadcastInDim S8x200x1 ![0, 1] bcast_S8x200_S8x200x1_0_1 a.2.2.2.2.2.2.1⟩,
    ⟨S8x200x1, broadcastInDim S8x200x1 ![0, 1] bcast_S8x200_S8x200x1_0_1 a.2.2.2.2.2.2.2⟩]
    concatenates_S8x200x1_S8x200x1_S8x200x1_S8x200x1_S8x200x1_S8x200x1_S8x200x6_d2

theorem V4_v12 (c : Dev nD) : V4 m (left m) c (Proc.devRef .tc main_v12) = joined (final m c) := by
  unfold joined
  rw [← X3_v5_0, ← X3_v5_1, ← X3_v5_2, ← X3_v5_3, ← X3_v5_4, ← X3_v5_5]
  unfold V4
  rw [V3_left]
  simp only [StableHlo.after_cons, StableHlo.after_nil]
  after_results_entrywise []

theorem V1_v0 (c : Dev nD) : V1 m c (Proc.devRef .tc main_v0) = transpose S81x8x20000 [2, 0, 1] (m (c, Proc.devRef .tc main_arg1)) transposes_S8x20000x81_S81x8x20000_2_0_1 := by
  unfold V1
  after_results
theorem V1_v1 (c : Dev nD) : V1 m c (Proc.devRef .tc main_v1) = transpose S4x8x20000 [2, 0, 1] (m (c, Proc.devRef .tc main_arg0)) transposes_S8x20000x4_S4x8x20000_2_0_1 := by
  unfold V1
  after_results
theorem V1_v3 (c : Dev nD) : V1 m c (Proc.devRef .tc main_v3) = broadcastInDim S4x1x20000 ![0, 2] bcast_S4x20000_S4x1x20000_0_2 (transpose S4x20000 [1, 0] (m (c, Proc.devRef .tc main_arg2)) transposes_S20000x4_S4x20000_1_0) := by
  unfold V1
  after_results

/-- The state at the end, of the launch's arrays. -/
theorem final_eq (c : Dev nD) : final m c = picked (V1 m c (Proc.devRef .tc main_v1)) (V1 m c (Proc.devRef .tc main_v3))
    (scoreOf (V1 m c (Proc.devRef .tc main_v0))) (clsOf (V1 m c (Proc.devRef .tc main_v0))) := by
  unfold final ends offs pris scos clss
  rw [X2_v4_0, X2_v4_1, X2_keeps m c _ (by decide) (by decide), X2_keeps m c _ (by decide) (by decide)]
  rfl

/-- The device's buffers at launch are held at the launch's contents, beside the rest. -/
theorem launch_split (ρ : Dev nD → PrngReg) :
    (iprop((bigSep Finset.univ fun c : Dev nD => iprop(unscopedBufs c (fun b => m ((c.tc : Thread nD τ).loc b)) ∗ unscopedSems0 c
        ∗ owes (c.tc : Thread nD τ) (none₀ c) ∅ ∗ Pipeline.launchCred none₀ c ∗ prngReg c (ρ c) ∗ emp₀ c)) ∗ levAts Lv lv₀) : sProp 𝕄)
      ⊢ |={Set.univ}=> bigSep Finset.univ fun c : Dev nD => iprop(StableHlo.held (c : Thread nD τ) (Pipeline.ucRefs τ sig) (V0 m c) ∗ rest 0 c) := by
  have hsplit : (bigSep Finset.univ fun c : Dev nD => iprop(unscopedBufs c (fun b => m ((c.tc : Thread nD τ).loc b)) ∗ unscopedSems0 c
        ∗ owes (c.tc : Thread nD τ) (none₀ c) ∅ ∗ Pipeline.launchCred none₀ c ∗ prngReg c (ρ c) ∗ emp₀ c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (none₀ c) ∅ ∗ Pipeline.launchCred none₀ c ∗ prngReg c (ρ c) ∗ emp₀ c))
          : sProp 𝕄) := by
    rw [← bigSep_sep']
    exact bigSep_mono fun c _ => by rw [← Pipeline.unscopedBufs_held (Ix := Unit) (Name := ℕ) (U := UR sig nD τ) (Lvl := ℕ) c (V0 m c)]; exact BI.Entails.refl _
  iintro ⟨H, Hla⟩
  ihave H' := hsplit $$ H
  icases H' with ⟨Hh, Hr⟩
  imod (launch_rest ρ) $$ [Hr Hla] with HE
  · isplitl [Hr]; · iexact Hr
    iexact Hla
  imodintro
  rw [show (bigSep Finset.univ fun c : Dev nD => iprop(StableHlo.held (c : Thread nD τ) (Pipeline.ucRefs τ sig) (V0 m c) ∗ rest 0 c) : sProp 𝕄) = _ from
    bigSep_sep' Finset.univ (fun c : Dev nD => (StableHlo.held (c : Thread nD τ) (Pipeline.ucRefs τ sig) (V0 m c) : sProp 𝕄)) (rest 0)]
  isplitl [Hh]; · iexact Hh
  iexact HE

/-- A buffer of the core is among those held. -/
theorem mem_held (r : Ref sig .tc) (h : ¬ (Proc.devRef (τ := τ) .tc r).isScoped = true) : (Proc.devRef .tc r : DevRef τ sig) ∈ Pipeline.ucRefs τ sig :=
  Finset.mem_filter.mpr ⟨StableHlo.devRef_mem_tcRefs r, h⟩

set_option backward.isDefEq.respectTransparency.types false in
/-- The run: the result holds the selections' planes, and the arguments are unchanged. -/
theorem value_run (ρ : Dev nD → PrngReg) : θ_run defs (onTc (τ := τ) (main (F := F))) ⟨m, fun _ => 0, ρ⟩ (fun r => ∀ c : Dev nD,
      r.2.mem ((c.tc : Thread nD τ).loc main_v12) = joined (final m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev_sems (pcfgs (F := F)) adm (dats m) () cellOf_inj EP defs₀ Variants.none Lv lv₀ m ρ main
    (segs m (left m) Variants.none Lv lv₀ rest () (dats m) (rec0 m) (rec1 m))
    (fun c Q => by
      rewrite [main_chain c, Seg.run_eq_chain,
        show (segs m (left m) Variants.none Lv lv₀ rest () (dats m) (rec0 m) (rec1 m) c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) none₀ (fun g h => if_neg h) emp₀ u₀ launch_u
    (T₀ := fun c => iprop(StableHlo.held (c : Thread nD τ) (Pipeline.ucRefs τ sig) (V0 m c) ∗ rest 0 c))
    (Tₙ := fun c => StableHlo.held (c : Thread nD τ) (Pipeline.ucRefs τ sig) (V4 m (left m) c))
    (hch := fun c => ⟨.rfl, pre0 m c, (post0 m c).trans (pre1 m c), post1 m c, sep_mono .rfl (rest_owes c)⟩)
    (hinit := launch_split m ρ)
    (QY := fun c s => s.mem ((c.tc : Thread nD τ).loc main_v12) = joined (final m c) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h _ => h)
  unfold StableHlo.held
  iintro ⟨Hh, HSI⟩
  ihave Hr := (pointsTo_read_all (Pipeline.ucRefs τ sig) (fun b => ((c : Thread nD τ).1, b)) (V4 m (left m) c) s') $$ [Hh HSI]
  · isplitl [Hh] <;> iassumption
  icases Hr with ⟨%h, HSI⟩
  imodintro
  isplitr
  · ipureintro
    exact ⟨(h _ (mem_held main_v12 (by decide))).trans (V4_v12 m c), (h _ (mem_held main_arg0 (by decide))).trans (V4_main_arg0 m (left m) c),
      (h _ (mem_held main_arg1 (by decide))).trans (V4_main_arg1 m (left m) c), (h _ (mem_held main_arg2 (by decide))).trans (V4_main_arg2 m (left m) c)⟩
  · iexact HSI

end Cert.Proof.KernelIdeal
end
-- ==== Proof.Finite.lean ====
module

public import proofs.«01_k».proof.Proof.Shares

@[expose] public section

noncomputable section

namespace Cert.Proof

open Idealize.ShloMosaic

/-! ## Real values stay real -/

theorem IsReal.add {x y : EReal} : IsReal x → IsReal y → IsReal (x + y)
  | ⟨a, ha⟩, ⟨b, hb⟩ => ⟨a + b, by rw [ha, hb, EReal.coe_add]⟩
theorem IsReal.sub {x y : EReal} : IsReal x → IsReal y → IsReal (x - y)
  | ⟨a, ha⟩, ⟨b, hb⟩ => ⟨a - b, by rw [ha, hb, EReal.coe_sub]⟩
theorem IsReal.mul {x y : EReal} : IsReal x → IsReal y → IsReal (x * y)
  | ⟨a, ha⟩, ⟨b, hb⟩ => ⟨a * b, by rw [ha, hb, EReal.coe_mul]⟩
theorem IsReal.exp {x : EReal} : IsReal x → IsReal (Ideal.exp x)
  | ⟨a, ha⟩ => ⟨Real.exp a, by rw [ha, exp_real]⟩
theorem IsReal.max {x y : EReal} (hx : IsReal x) (hy : IsReal y) : IsReal (max x y) := by
  rcases max_choice x y with h | h <;> rw [h] <;> assumption
theorem IsReal.div {x y : EReal} (h0 : y ≠ 0) : IsReal x → IsReal y → IsReal (Ideal.div x y)
  | ⟨a, ha⟩, ⟨b, hb⟩ => ⟨a / b, by rw [ha, hb, div_real]; rintro rfl; exact h0 hb⟩

theorem isReal_lit (b : BitVec 32) (h : (b.extractLsb' 23 8).toNat ≠ 255) : IsReal (lit b) := by
  show IsReal (Ideal.ieee 8 23 b)
  unfold Ideal.ieee
  simp only
  rw [if_neg (by simpa using h)]
  split
  · exact ⟨_, rfl⟩
  · exact ⟨_, rfl⟩

theorem two_ne : lit 0x40000000#32 ≠ 0 := by
  simp [lit, Ideal.ofBits, Ideal.ieee]

theorem extent_real {s w : EReal} (hs : IsReal s) (hw : IsReal w) : IsReal (extent s w) :=
  hw.mul (hs.mul (isReal_lit _ (by decide))).exp
theorem lower_real {o s p w : EReal} (ho : IsReal o) (hs : IsReal s) (hp : IsReal p) (hw : IsReal w) : IsReal (lower o s p w) :=
  (hp.add ((ho.mul (isReal_lit _ (by decide))).mul hw)).sub ((extent_real hs hw).div two_ne (isReal_lit _ (by decide)))
theorem upper_real {o s p w : EReal} (ho : IsReal o) (hs : IsReal s) (hp : IsReal p) (hw : IsReal w) : IsReal (upper o s p w) :=
  (lower_real ho hs hp hw).add (extent_real hs hw)

theorem coord_real {o p : Fin 20000 → Fin 4 → EReal} (ho : ∀ n k, IsReal (o n k)) (hp : ∀ n k, IsReal (p n k)) (c : Fin 4) (n : Fin 20000) :
    IsReal (coord o p c n) := by
  match c with
  | 0 => exact lower_real (ho n 0) (ho n 2) (hp n 0) (hp n 2)
  | 1 => exact lower_real (ho n 1) (ho n 3) (hp n 1) (hp n 3)
  | 2 => exact upper_real (ho n 0) (ho n 2) (hp n 0) (hp n 2)
  | 3 => exact upper_real (ho n 1) (ho n 3) (hp n 1) (hp n 3)

theorem reach_real {q : Fin 4 → Row} (hq : ∀ c n, IsReal (q c n)) : IsReal (reach q) :=
  IsReal.add (((hq _ _).max (hq _ _)).max ((hq _ _).max (hq _ _))) ⟨1, rfl⟩

/-! ## Taking a box -/

/-- A real box moved by its class and moved back is where it was. -/
theorem spread_back {q : Fin 4 → Row} {k : Row} (hq : ∀ c n, IsReal (q c n)) (hk : ∀ n, IsReal (k n)) (c : Fin 4) (n : Fin 20000) :
    spread q k c n - k n * reach q = q c n := by
  obtain ⟨a, ha⟩ := hq c n
  obtain ⟨d, hd⟩ := (hk n).mul (reach_real hq)
  unfold spread
  rw [ha, hd, ← EReal.coe_add, ← EReal.coe_sub, add_sub_cancel_right]

/-- A score still in play is the score it was. -/
theorem walk_kept (x1 y1 x2 y2 s : Row) : ∀ k n, walk x1 y1 x2 y2 (opening s) k n = ⊥ ∨ walk x1 y1 x2 y2 (opening s) k n = s n
  | 0, n => by
    show opening s n = ⊥ ∨ opening s n = s n
    unfold opening
    split
    · exact Or.inr rfl
    · exact Or.inl rfl
  | k + 1, n => by
    rw [walk_succ]
    unfold next
    split
    · exact Or.inl rfl
    · exact walk_kept x1 y1 x2 y2 s k n

theorem taken_kept (w s : Row) (h : ∀ n, w n = ⊥ ∨ w n = s n) : taken w w = taken w s := by
  unfold taken
  split
  · rename_i hb
    exact (h _).resolve_left hb.ne'
  · rfl

/-- A box without a score is out of play. -/
theorem walk_dead (x1 y1 x2 y2 s : Row) (k : Nat) (n : Fin 20000) (h : s n = ⊥) : walk x1 y1 x2 y2 (opening s) k n = ⊥ := by
  rcases walk_kept x1 y1 x2 y2 s k n with e | e
  · exact e
  · rw [e, h]

/-- The class of a box without a score moves nothing that counts. -/
theorem walk_live (q : Fin 4 → Row) (k k' s : Row) (h : ∀ n, k n = k' n ∨ s n = ⊥) :
    ∀ r, walk (spread q k 0) (spread q k 1) (spread q k 2) (spread q k 3) (opening s) r
      = walk (spread q k' 0) (spread q k' 1) (spread q k' 2) (spread q k' 3) (opening s) r
  | 0 => rfl
  | r + 1 => by
    have ih := walk_live q k k' s h r
    have hd := walk_dead (spread q k' 0) (spread q k' 1) (spread q k' 2) (spread q k' 3) s r
    rw [walk_succ, walk_succ, ih]
    generalize walk (spread q k' 0) (spread q k' 1) (spread q k' 2) (spread q k' 3) (opening s) r = w at hd ⊢
    funext n
    unfold next
    by_cases hw : w n = ⊥
    · rw [hw, ite_self, ite_self]
    have hf : w (first w) ≠ ⊥ := fun e => hw (le_bot_iff.mp (e ▸ (first_spec w).1 n))
    have e1 : k n = k' n := (h n).resolve_right fun e => hw (hd n e)
    have e2 : k (first w) = k' (first w) := (h _).resolve_right fun e => hf (hd _ e)
    have ho : Over (spread q k 0) (spread q k 1) (spread q k 2) (spread q k 3) (first w) n
        ↔ Over (spread q k' 0) (spread q k' 1) (spread q k' 2) (spread q k' 3) (first w) n := by
      unfold Over sharedOf areaOf spread
      rw [e1, e2]
    classical exact if_congr (or_congr ho Iff.rfl) rfl rfl

theorem taken_live (w k k' : Row) (h : ∀ n, k n = k' n ∨ w n = ⊥) : taken w k = taken w k' := by
  unfold taken
  split
  · rename_i hb
    exact (h _).resolve_right hb.ne'
  · rfl

/-- The scores in play at turn `r`, and what a turn writes: `o` an image's offsets, `p` the priors and `l` its logits. -/
def playing (o p : Fin 20000 → Fin 4 → EReal) (l : Fin 20000 → Fin 81 → EReal) (r : Nat) : Row :=
  walk (spread (coord o p) (fun n => bestClass (l n)) 0) (spread (coord o p) (fun n => bestClass (l n)) 1)
    (spread (coord o p) (fun n => bestClass (l n)) 2) (spread (coord o p) (fun n => bestClass (l n)) 3)
    (opening fun n => bestScore (l n)) r
def answer (o p : Fin 20000 → Fin 4 → EReal) (l : Fin 20000 → Fin 81 → EReal) (r : Nat) (c : Fin 6) : EReal :=
  taken (playing o p l r)
    ((![coord o p 0, coord o p 1, coord o p 2, coord o p 3, fun n => bestScore (l n), fun n => bestClass (l n)] : Fin 6 → Row) c)

end Cert.Proof
-- ==== Proof.KernelIdeal.Answer.lean ====
module

public import proofs.«01_k».proof.Proof.KernelIdeal.Reads
public import proofs.«01_k».proof.Proof.KernelIdeal.LaneValue
public import proofs.«01_k».proof.Proof.KernelIdeal.Value
public import proofs.«01_k».proof.Proof.Finite

@[expose] public section

set_option maxRecDepth 16384

noncomputable section

namespace Cert.Proof.KernelIdeal

open Cert.KernelIdeal Cert.KernelIdeal.Gen Cert.Proof

open Idealize.ShloMosaic Idealize.ShloMosaic.TcCoe
open Idealize.SL.Sem

section
variable (x0 : S4x8x20000.Idx → Ideal .f32) (x1 : S4x1x20000.Idx → Ideal .f32) (x2 x3 : S8x20000.Idx → Ideal .f32) (b : Fin 8)

theorem cls_apply (n : Fin 20000) : k1_pay35 (F := Ideal) x3 (ix2 b n) = rowOf x3 b n := by
  pointwise [k1_pay35]

theorem start_max : (start x2).2.1 = k1_pay2 (start x2).1 := by
  unfold start
  dsimp only

/-- What the selections leave at one place, in plain numbers. -/
theorem picked_wrote (r : Fin 200) :
    Wrote (k1_pay35 x3) (unitOff x0 x1) (boxX1 x0 x1 x3) (boxY1 x0 x1 x3) (boxX2 x0 x1 x3) (boxY2 x0 x1 x3) b
      (walk (spread (coord (kOffs x0 b) (kPris x1)) (rowOf x3 b) 0) (spread (coord (kOffs x0 b) (kPris x1)) (rowOf x3 b) 1)
        (spread (coord (kOffs x0 b) (kPris x1)) (rowOf x3 b) 2) (spread (coord (kOffs x0 b) (kPris x1)) (rowOf x3 b) 3)
        (opening (rowOf x2 b)) r.val)
      (picked x0 x1 x2 x3) r := by
  have h := fold_trip (k1_pay35 x3) (unitOff x0 x1) (boxX1 x0 x1 x3) (boxY1 x0 x1 x3) (boxX2 x0 x1 x3) (boxY2 x0 x1 x3) (boxArea x0 x1 x3)
    (start x2) b (boxArea_apply x0 x1 x3 b) (start_max x2) r
  rw [show (start x2).1 = work0 x2 from rfl, work0_row, boxX1_row, boxY1_row, boxX2_row, boxY2_row] at h
  exact h

/-- A coordinate moved by class and moved back. -/
theorem back_row (ho : ∀ n k, IsReal (kOffs x0 b n k)) (hp : ∀ n k, IsReal (kPris x1 n k)) (hk : ∀ n, IsReal (rowOf x3 b n))
    (v : S8x20000.Idx → Ideal .f32) (k : Fin 4) (hv : rowOf v b = spread (coord (kOffs x0 b) (kPris x1)) (rowOf x3 b) k) :
    (fun n => v (ix2 b n) - k1_pay35 x3 (ix2 b n) * unitOff x0 x1 (ix2 b 0)) = coord (kOffs x0 b) (kPris x1) k := by
  funext n
  have h1 : v (ix2 b n) = spread (coord (kOffs x0 b) (kPris x1)) (rowOf x3 b) k n := congrFun hv n
  rw [h1, cls_apply, unitOff_apply]
  exact spread_back (coord_real ho hp) hk k n

theorem joined_row (a : Carry Ideal) (r : Fin 200) (k : Fin 6) :
    joined a (ix3 b r k) = (![a.2.2.1 (ix2 b r), a.2.2.2.1 (ix2 b r), a.2.2.2.2.1 (ix2 b r), a.2.2.2.2.2.1 (ix2 b r),
      a.2.2.2.2.2.2.1 (ix2 b r), a.2.2.2.2.2.2.2 (ix2 b r)] : Fin 6 → EReal) k := by
  unfold joined
  match k with
  | 0 => pointwise []
  | 1 => pointwise []
  | 2 => pointwise []
  | 3 => pointwise []
  | 4 => pointwise []
  | 5 => pointwise []

theorem joined_eq (l : Fin 20000 → Fin 81 → EReal) (ho : ∀ n k, IsReal (kOffs x0 b n k)) (hp : ∀ n k, IsReal (kPris x1 n k))
    (hs : rowOf x2 b = fun n => bestScore (l n)) (hk : ∀ n, IsReal (rowOf x3 b n))
    (hc : ∀ n, rowOf x3 b n = bestClass (l n) ∨ bestScore (l n) = ⊥) (r : Fin 200) (k : Fin 6) :
    joined (picked x0 x1 x2 x3) (ix3 b r k) = answer (kOffs x0 b) (kPris x1) l r.val k := by
  obtain ⟨h0, h1, h2, h3, h4, h5⟩ := picked_wrote x0 x1 x2 x3 b r
  rw [back_row x0 x1 x3 b ho hp hk _ 0 (boxX1_row x0 x1 x3 b)] at h0
  rw [back_row x0 x1 x3 b ho hp hk _ 1 (boxY1_row x0 x1 x3 b)] at h1
  rw [back_row x0 x1 x3 b ho hp hk _ 2 (boxX2_row x0 x1 x3 b)] at h2
  rw [back_row x0 x1 x3 b ho hp hk _ 3 (boxY2_row x0 x1 x3 b)] at h3
  rw [taken_kept _ (rowOf x2 b) (walk_kept _ _ _ _ _ _)] at h4
  simp only [cls_apply] at h5
  rw [hs] at h0 h1 h2 h3 h4 h5
  rw [taken_live _ (rowOf x3 b) (fun n => bestClass (l n)) fun n => (hc n).imp_right (walk_dead _ _ _ _ _ _ n)] at h5
  rw [walk_live _ _ (fun n => bestClass (l n)) _ hc] at h0 h1 h2 h3 h4 h5
  rw [joined_row]
  match k with
  | 0 => exact h0
  | 1 => exact h1
  | 2 => exact h2
  | 3 => exact h3
  | 4 => exact h4
  | 5 => exact h5

end

end Cert.Proof.KernelIdeal
-- ==== Proof.ReferenceIdeal.Entry.lean ====
module

public import proofs.«01_k».proof.Proof.Gen.ReferenceIdeal.Run
public import Idealize.ShloMosaic.Lib.StableHlo.RunClose

@[expose] public section

set_option maxRecDepth 16384

noncomputable section

namespace Cert.Proof.ReferenceIdeal

open Cert.ReferenceIdeal Cert.ReferenceIdeal.Gen Cert.ReferenceIdeal.Value

open Idealize.ShloMosaic Idealize.ShloMosaic.TcCoe Idealize.ShloMosaic.Tactic
open Idealize.SL.Sem
open Idealize.ShloMosaic.StableHlo

variable {F : FTy → Type} [FloatOps F]

/-! ## What the reference works out before its loop -/

/-- Each anchor's greatest logit, as folded. -/
def rawTop (x : FVec F S8x20000x81 .f32) : FVec F S8x20000 .f32 :=
  Host.reduce FloatOps.maximumf x (constant S_ .f32 0xFF800000#32) reducesTo_S8x20000x81_S8x20000_d2 h_S_

/-- Each anchor's greatest logit. -/
def logitTop (x : FVec F S8x20000x81 .f32) : FVec F S8x20000 .f32 :=
  maximumf (broadcastInDim S8x20000 ![] bcast_S_S8x20000 (constant S_ .f32 0xFF800000#32)) (rawTop x)

/-- The powers of the logits less their greatest. -/
def powers (x : FVec F S8x20000x81 .f32) : FVec F S8x20000x81 .f32 :=
  Host.exp (subf x (broadcastInDim S8x20000x81 ![0, 1, 2] bcast_S8x20000x1_S8x20000x81_0_1_2
    (broadcastInDim S8x20000x1 ![0, 1] bcast_S8x20000_S8x20000x1_0_1 (logitTop x))))

/-- The softmax, its first class left off. -/
def probs (x : FVec F S8x20000x81 .f32) : FVec F S8x20000x80 .f32 :=
  extractStridedSlice S8x20000x80 ![0, 0, 1]
    (Host.divf (powers x) (broadcastInDim S8x20000x81 ![0, 1, 2] bcast_S8x20000x1_S8x20000x81_0_1_2
      (broadcastInDim S8x20000x1 ![0, 1] bcast_S8x20000_S8x20000x1_0_1
        (Host.reduceAdd (powers x) (constant S_ .f32 0x00000000#32) reducesTo_S8x20000x81_S8x20000_d2 h_S_))))
    slices_S8x20000x81_S8x20000x80_0_0_1

def scores (x : FVec F S8x20000x81 .f32) : FVec F S8x20000x1 .f32 :=
  (Host.topK S8x20000x1 2 (FloatOps.cmpfTotal .gt) (probs x) sliceFits_S8x20000x80_S8x20000x1).1

def classes (x : FVec F S8x20000x81 .f32) : FVec F S8x20000x1 .f32 :=
  sitofp .f32 (Host.topK S8x20000x1 2 (FloatOps.cmpfTotal .gt) (probs x) sliceFits_S8x20000x80_S8x20000x1).2

abbrev priors (y : FVec F S20000x4 .f32) : FVec F S1x20000x4 .f32 :=
  broadcastInDim S1x20000x4 ![1, 2] bcast_S20000x4_S1x20000x4_1_2 y

/-- The boxes' extents. -/
def extents (x : FVec F S8x20000x4 .f32) (y : FVec F S20000x4 .f32) : FVec F S8x20000x2 .f32 :=
  mulf (broadcastInDim S8x20000x2 ![0, 1, 2] bcast_S1x20000x2_S8x20000x2_0_1_2
      (extractStridedSlice S1x20000x2 ![0, 0, 2] (priors y) slices_S1x20000x4_S1x20000x2_0_0_2))
    (Host.exp (mulf (extractStridedSlice S8x20000x2 ![0, 0, 2] x slices_S8x20000x4_S8x20000x2_0_0_2)
      (broadcastInDim S8x20000x2 ![] bcast_S_S8x20000x2 (constant S_ .f32 0x3E4CCCCD#32))))

/-- The boxes' lower corners. -/
def corners (x : FVec F S8x20000x4 .f32) (y : FVec F S20000x4 .f32) : FVec F S8x20000x2 .f32 :=
  subf (addf
      (broadcastInDim S8x20000x2 ![0, 1, 2] bcast_S1x20000x2_S8x20000x2_0_1_2
        (extractStridedSlice S1x20000x2 ![0, 0, 0] (priors y) slices_S1x20000x4_S1x20000x2_0_0_0))
      (mulf (mulf (extractStridedSlice S8x20000x2 ![0, 0, 0] x slices_S8x20000x4_S8x20000x2_0_0_0)
          (broadcastInDim S8x20000x2 ![] bcast_S_S8x20000x2 (constant S_ .f32 0x3DCCCCCD#32)))
        (broadcastInDim S8x20000x2 ![0, 1, 2] bcast_S1x20000x2_S8x20000x2_0_1_2
          (extractStridedSlice S1x20000x2 ![0, 0, 2] (priors y) slices_S1x20000x4_S1x20000x2_0_0_2))))
    (Host.divf (extents x y) (broadcastInDim S8x20000x2 ![] bcast_S_S8x20000x2 (constant S_ .f32 0x40000000#32)))

def decoded (x : FVec F S8x20000x4 .f32) (y : FVec F S20000x4 .f32) : FVec F S8x20000x4 .f32 :=
  concatenate S8x20000x4 2 [⟨S8x20000x2, corners x y⟩, ⟨S8x20000x2, addf (corners x y) (extents x y)⟩]
    concatenates_S8x20000x2_S8x20000x2_S8x20000x4_d2

/-- The table the loop reads its rows from. -/
def table (x : FVec F S8x20000x4 .f32) (s k : FVec F S8x20000x1 .f32) (y : FVec F S20000x4 .f32) : FVec F S8x20000x6 .f32 :=
  concatenate S8x20000x6 2 [⟨S8x20000x4, decoded x y⟩, ⟨S8x20000x1, s⟩, ⟨S8x20000x1, k⟩]
    concatenates_S8x20000x4_S8x20000x1_S8x20000x1_S8x20000x6_d2

/-- The boxes moved apart by class. -/
def apart (x : FVec F S8x20000x4 .f32) (k : FVec F S8x20000x1 .f32) (y : FVec F S20000x4 .f32) : FVec F S8x20000x4 .f32 :=
  addf (decoded x y) (broadcastInDim S8x20000x4 ![0, 1, 2] bcast_S8x20000x1_S8x20000x4_0_1_2
    (mulf k (broadcastInDim S8x20000x1 ![0, 1, 2] bcast_S8x1x1_S8x20000x1_0_1_2
      (addf (broadcastInDim S8x1x1 ![0] bcast_S8_S8x1x1_0
          (Host.reduce FloatOps.maximumf (decoded x y) (constant S_ .f32 0xFF800000#32) reducesTo_S8x20000x4_S8_d1_2 h_S_))
        (broadcastInDim S8x1x1 ![] bcast_S_S8x1x1 (constant S_ .f32 0x3F800000#32))))))

/-- The scores the loop starts from. -/
def openWork (s : FVec F S8x20000x1 .f32) : FVec F S8x20000 .f32 :=
  select (cmpf .ogt (shapeCast S8x20000 s shapeCasts_S8x20000x1_S8x20000)
      (broadcastInDim S8x20000 ![] bcast_S_S8x20000 (constant S_ .f32 0x3C23D70A#32)))
    (shapeCast S8x20000 s shapeCasts_S8x20000x1_S8x20000)
    (broadcastInDim S8x20000 ![] bcast_S_S8x20000 (constant S_ .f32 0xFF800000#32))

section
variable (m : (ℓ : Loc nD τ sig) → Buf (Elt F) ℓ) (c : Dev nD)

/-- The three arrays the reference is given. -/
abbrev in0 : FVec F S8x20000x4 .f32 := m ((c.tc : Thread nD τ).loc main_arg0)
abbrev in1 : FVec F S8x20000x81 .f32 := m ((c.tc : Thread nD τ).loc main_arg1)
abbrev in2 : FVec F S20000x4 .f32 := m ((c.tc : Thread nD τ).loc main_arg2)

theorem joined_congr {a a' : FVec F S8x20000x4 .f32} {s s' k k' : FVec F S8x20000x1 .f32} (ha : a = a') (hs : s = s') (hk : k = k') :
    concatenate S8x20000x6 2 [⟨S8x20000x4, a⟩, ⟨S8x20000x1, s⟩, ⟨S8x20000x1, k⟩]
        concatenates_S8x20000x4_S8x20000x1_S8x20000x1_S8x20000x6_d2
      = concatenate S8x20000x6 2 [⟨S8x20000x4, a'⟩, ⟨S8x20000x1, s'⟩, ⟨S8x20000x1, k'⟩]
        concatenates_S8x20000x4_S8x20000x1_S8x20000x1_S8x20000x6_d2 := by
  rw [ha, hs, hk]

theorem entry_0 : entryContents preI m c (Proc.devRef .tc main_v50_0) = table (in0 m c) (scores (in1 m c)) (classes (in1 m c)) (in2 m c) := by
  simp only [entryContents, afterL_cons, afterL_nil]
  after_reads_simp
  dsimp only [Matrix.cons_val, id_eq]
  refine joined_congr ?_ ?_ ?_
  · after_reads_simp
    rfl
  · after_reads_simp
    rfl
  · after_reads_simp
    rfl

theorem entry_1 : entryContents preI m c (Proc.devRef .tc main_v50_1) = apart (in0 m c) (classes (in1 m c)) (in2 m c) := by
  simp only [entryContents, afterL_cons, afterL_nil]
  after_reads_simp
  rfl

theorem entry_3 : entryContents preI m c (Proc.devRef .tc main_v50_3) = openWork (scores (in1 m c)) := by
  simp only [entryContents, afterL_cons, afterL_nil]
  after_reads_simp
  rfl

end

end Cert.Proof.ReferenceIdeal
-- ==== Proof.HostReads.lean ====
module

public import proofs.«01_k».proof.Proof.First
public import Idealize.ShloMosaic.Lib.Pointwise

@[expose] public section

noncomputable section

namespace Cert.Proof

open Idealize.ShloMosaic

theorem cmpTotal_gt (x y : EReal) : (FloatOps.cmpfTotal (F := Ideal) (φ := .f32) .gt x y == 1#1) = true ↔ y < x := by
  show (BitVec.ofBool (decide (y < x)) == 1#1) = true ↔ _
  by_cases h : y < x <;> simp [h]

/-- The best along an axis, and its place there. -/
theorem topK_apply {s t : Shape} (a : Fin s.rank) (x : s.Idx → Ideal .f32) (h : s.Slices (fun _ => 0) t) (j : t.Idx) (i : s.Idx)
    (hi : ∀ k, (i k).val = (j (k.cast h.1.symm)).val) (hz : (i a).val = 0) :
    ∃ i0 : Fin (s.size a), IsFirst (fun k => x (i.along a k)) i0
      ∧ (Host.topK t a.val (FloatOps.cmpfTotal (F := Ideal) (φ := .f32) .gt) x h).1 j = x (i.along a i0)
      ∧ (Host.topK t a.val (FloatOps.cmpfTotal (F := Ideal) (φ := .f32) .gt) x h).2 j = BitVec.ofNat 32 i0.val := by
  have he : (fun k : Fin s.rank => (⟨0 + (j (k.cast h.1.symm)).val,
      Nat.lt_of_lt_of_le (Nat.add_lt_add_left (Fin.isLt _) _) (h.2 k)⟩ : Fin (s.size k))) = i := by
    funext k; apply Fin.ext; rw [hi]; exact Nat.zero_add _
  refine ⟨_, sortedFrom_first (fun k : Fin (s.size a) => x (i.along a k))
    (fun k k' => FloatOps.cmpfTotal (F := Ideal) (φ := .f32) .gt (x (i.along a k)) (x (i.along a k')) == 1#1)
    (fun i j => cmpTotal_gt _ _) (i a) hz, ?_, ?_⟩
  · simp only [Host.topK, Host.sort2, dif_pos a.isLt, extractStridedSlice]
    rw [he]
    exact congrArg (fun q => x (i.along a (sortedFrom _ q))) (congrFun he a)
  · simp only [Host.topK, Host.sort2, dif_pos a.isLt, extractStridedSlice]
    rw [he, iotaInDim]
    exact congrArg (fun k : Fin (s.size a) => BitVec.ofNat 32 k.val)
      ((Function.update_self ..).trans (congrArg (sortedFrom _) (congrFun he a)))

/-- The best along the lanes of a matrix, and its place. -/
theorem topK_rows {B n : Nat} [NeZero n] (x : (⟨2, ![B, n]⟩ : Shape).Idx → Ideal .f32)
    (h : (⟨2, ![B, n]⟩ : Shape).Slices (fun _ => 0) ⟨2, ![B, 1]⟩) (b : Fin B) (z : Fin 1) :
    (Host.topK ⟨2, ![B, 1]⟩ 1 (FloatOps.cmpfTotal (F := Ideal) (φ := .f32) .gt) x h).1 (ix2 b z)
        = x (ix2 b (first fun k => x (ix2 b k)))
      ∧ (Host.topK ⟨2, ![B, 1]⟩ 1 (FloatOps.cmpfTotal (F := Ideal) (φ := .f32) .gt) x h).2 (ix2 b z)
        = BitVec.ofNat 32 (first fun k => x (ix2 b k)).val := by
  obtain rfl : z = 0 := Subsingleton.elim _ _
  have h0 : 0 < n := Nat.pos_of_ne_zero (NeZero.ne n)
  have hal : ∀ k : Fin n, Shape.Idx.along (s := (⟨2, ![B, n]⟩ : Shape)) (ix2 b (⟨0, h0⟩ : Fin n)) 1 k = ix2 b k := by
    intro k; funext a; fin_cases a <;> rfl
  obtain ⟨i0, hf, h1, h2⟩ := topK_apply (s := (⟨2, ![B, n]⟩ : Shape)) 1 x h (ix2 b 0) (ix2 b (⟨0, h0⟩ : Fin n)) (by intro k; fin_cases k <;> rfl) rfl
  have e : i0 = first fun k => x (ix2 b k) := IsFirst.eq_first (n := n)
    ((show (fun k : Fin n => x (Shape.Idx.along (s := (⟨2, ![B, n]⟩ : Shape)) (ix2 b (⟨0, h0⟩ : Fin n)) 1 k)) = fun k => x (ix2 b k) from
      funext fun k => congrArg x (hal k)) ▸ hf)
  exact ⟨h1.trans ((congrArg x (hal i0)).trans (congrArg (fun k => x (ix2 b k)) e)), h2.trans (congrArg (fun k : Fin n => BitVec.ofNat 32 k.val) e)⟩

/-- The best along the innermost axis of three, and its place. -/
theorem topK_inner {B m n : Nat} [NeZero n] (x : (⟨3, ![B, m, n]⟩ : Shape).Idx → Ideal .f32)
    (h : (⟨3, ![B, m, n]⟩ : Shape).Slices (fun _ => 0) ⟨3, ![B, m, 1]⟩) (b : Fin B) (i : Fin m) (z : Fin 1) :
    (Host.topK ⟨3, ![B, m, 1]⟩ 2 (FloatOps.cmpfTotal (F := Ideal) (φ := .f32) .gt) x h).1 (ix3 b i z)
        = x (ix3 b i (first fun k => x (ix3 b i k)))
      ∧ (Host.topK ⟨3, ![B, m, 1]⟩ 2 (FloatOps.cmpfTotal (F := Ideal) (φ := .f32) .gt) x h).2 (ix3 b i z)
        = BitVec.ofNat 32 (first fun k => x (ix3 b i k)).val := by
  obtain rfl : z = 0 := Subsingleton.elim _ _
  have h0 : 0 < n := Nat.pos_of_ne_zero (NeZero.ne n)
  have hal : ∀ k : Fin n, Shape.Idx.along (s := (⟨3, ![B, m, n]⟩ : Shape)) (ix3 b i (⟨0, h0⟩ : Fin n)) 2 k = ix3 b i k := by
    intro k; funext a; fin_cases a <;> rfl
  obtain ⟨i0, hf, h1, h2⟩ := topK_apply (s := (⟨3, ![B, m, n]⟩ : Shape)) 2 x h (ix3 b i 0) (ix3 b i (⟨0, h0⟩ : Fin n)) (by intro k; fin_cases k <;> rfl) rfl
  have e : i0 = first fun k => x (ix3 b i k) := IsFirst.eq_first (n := n)
    ((show (fun k : Fin n => x (Shape.Idx.along (s := (⟨3, ![B, m, n]⟩ : Shape)) (ix3 b i (⟨0, h0⟩ : Fin n)) 2 k)) = fun k => x (ix3 b i k) from
      funext fun k => congrArg x (hal k)) ▸ hf)
  exact ⟨h1.trans ((congrArg x (hal i0)).trans (congrArg (fun k => x (ix3 b i k)) e)), h2.trans (congrArg (fun k : Fin n => BitVec.ofNat 32 k.val) e)⟩

/-- Reading, for every image, one row of its table. -/
abbrev rowDims (C : Nat) (wf : GatherDims.WF ⟨3, ![8, 20000, C]⟩ ⟨3, ![8, 1, 1]⟩ ⟨3, ![8, 1, C]⟩ [2] [1] [0] [1] [0] 2 ![1, 1, C]) :
    GatherDims ⟨3, ![8, 20000, C]⟩ ⟨3, ![8, 1, 1]⟩ ⟨3, ![8, 1, C]⟩ where
  offsetDims := [2]
  collapsedSliceDims := [1]
  operandBatchingDims := [0]
  startIndicesBatchingDims := [0]
  startIndexMap := [1]
  indexVectorDim := 2
  sliceSizes := ![1, 1, C]
  wf := wf

theorem gather_row {α : Type} {C : Nat} (wf) (x : (⟨3, ![8, 20000, C]⟩ : Shape).Idx → α) (idx : IVec ⟨3, ![8, 1, 1]⟩ 32)
    (b : Fin 8) (z : Fin 1) (c : Fin C) (i : Fin 20000) (hi : idx (ix3 b 0 0) = BitVec.ofNat 32 i.val) :
    Host.gather (rowDims C wf) x idx (ix3 b z c) = x (ix3 b i c) := by
  obtain rfl : z = 0 := Subsingleton.elim _ _
  have s0 : (rowDims C wf).start (ix3 b 0 c) idx 0 = 0 := dif_neg (show (0 : Fin 3) ∉ ([1] : List (Fin 3)) from by decide)
  have s2 : (rowDims C wf).start (ix3 b 0 c) idx 2 = 0 := dif_neg (show (2 : Fin 3) ∉ ([1] : List (Fin 3)) from by decide)
  have s1 : (rowDims C wf).start (ix3 b 0 c) idx 1 = i.val := by
    have hx : ∀ k, (rowDims C wf).siIdx (ix3 b 0 c) k = ix3 b 0 0 := by
      intro k; funext a; apply Fin.ext
      fin_cases a
      · rfl
      · rfl
      · show k.val = 0
        have : k.val < 1 := k.2
        omega
    refine (dif_pos (show (1 : Fin 3) ∈ ([1] : List (Fin 3)) from by decide)).trans ?_
    rw [hx, hi, toInt_place le_rfl]
    show min i.val (20000 - 1) = i.val
    have := i.2
    omega
  have b0 : (rowDims C wf).batchCoord (ix3 b 0 c) 0 = b.val := dif_pos (show (0 : Fin 3) ∈ ([0] : List (Fin 3)) from by decide)
  have b1 : (rowDims C wf).batchCoord (ix3 b 0 c) 1 = 0 := dif_neg (show (1 : Fin 3) ∉ ([0] : List (Fin 3)) from by decide)
  have b2 : (rowDims C wf).batchCoord (ix3 b 0 c) 2 = 0 := dif_neg (show (2 : Fin 3) ∉ ([0] : List (Fin 3)) from by decide)
  have o0 : (rowDims C wf).offCoord (ix3 b 0 c) 0 = 0 :=
    dif_neg (show (0 : Fin 3) ∉ (List.finRange 3).filter (fun a => a ∉ ([1] ++ [0] : List (Fin 3))) from by decide)
  have o1 : (rowDims C wf).offCoord (ix3 b 0 c) 1 = 0 :=
    dif_neg (show (1 : Fin 3) ∉ (List.finRange 3).filter (fun a => a ∉ ([1] ++ [0] : List (Fin 3))) from by decide)
  have o2 : (rowDims C wf).offCoord (ix3 b 0 c) 2 = c.val :=
    dif_pos (show (2 : Fin 3) ∈ (List.finRange 3).filter (fun a => a ∉ ([1] ++ [0] : List (Fin 3))) from by decide)
  refine congrArg x (funext fun a => Fin.ext ?_)
  fin_cases a
  · show (rowDims C wf).start _ _ 0 + (rowDims C wf).batchCoord _ 0 + (rowDims C wf).offCoord _ 0 = b.val
    rw [s0, b0, o0]; omega
  · show (rowDims C wf).start _ _ 1 + (rowDims C wf).batchCoord _ 1 + (rowDims C wf).offCoord _ 1 = i.val
    rw [s1, b1, o1]; omega
  · show (rowDims C wf).start _ _ 2 + (rowDims C wf).batchCoord _ 2 + (rowDims C wf).offCoord _ 2 = c.val
    rw [s2, b2, o2]; omega

/-- Writing one row of a stack: that row is new, the others stay. -/
theorem dus_row {α : Type} (x : (⟨3, ![200, 8, 6]⟩ : Shape).Idx → α) (upd : (⟨3, ![1, 8, 6]⟩ : Shape).Idx → α) (start : Fin 3 → Int)
    (h : (⟨3, ![200, 8, 6]⟩ : Shape).Slices (fun _ => 0) ⟨3, ![1, 8, 6]⟩) (k : Fin 200) (h0 : start 0 = k.val) (h1 : start 1 = 0) (h2 : start 2 = 0)
    (r : Fin 200) (b : Fin 8) (c : Fin 6) :
    Host.dynamicUpdateSlice x upd start h (ix3 r b c) = if r = k then upd (ix3 0 b c) else x (ix3 r b c) := by
  have hk := k.2
  have c0 : Host.clampedStart ⟨3, ![200, 8, 6]⟩ ⟨3, ![1, 8, 6]⟩ h.1 start 0 = k.val :=
    Host.clampedStart_of_le _ _ _ _ h0 (by show k.val + 1 ≤ 200; omega)
  have c1 : Host.clampedStart ⟨3, ![200, 8, 6]⟩ ⟨3, ![1, 8, 6]⟩ h.1 start 1 = 0 :=
    Host.clampedStart_of_le _ _ _ _ h1 (by show 0 + 8 ≤ 8; omega)
  have c2 : Host.clampedStart ⟨3, ![200, 8, 6]⟩ ⟨3, ![1, 8, 6]⟩ h.1 start 2 = 0 :=
    Host.clampedStart_of_le _ _ _ _ h2 (by show 0 + 6 ≤ 6; omega)
  rw [Host.dynamicUpdateSlice_apply]
  by_cases hr : r = k
  · subst hr
    rw [if_pos rfl, dif_pos]
    · refine congrArg upd (funext fun a => Fin.ext ?_)
      fin_cases a
      · show r.val - Host.clampedStart _ _ _ _ 0 = 0
        rw [c0]; omega
      · show b.val - Host.clampedStart _ _ _ _ 1 = b.val
        rw [c1]; omega
      · show c.val - Host.clampedStart _ _ _ _ 2 = c.val
        rw [c2]; omega
    · intro a
      fin_cases a
      · show Host.clampedStart _ _ _ _ 0 ≤ r.val ∧ r.val < Host.clampedStart _ _ _ _ 0 + 1
        rw [c0]; omega
      · show Host.clampedStart _ _ _ _ 1 ≤ b.val ∧ b.val < Host.clampedStart _ _ _ _ 1 + 8
        rw [c1]; omega
      · show Host.clampedStart _ _ _ _ 2 ≤ c.val ∧ c.val < Host.clampedStart _ _ _ _ 2 + 6
        rw [c2]; omega
  · rw [if_neg hr, dif_neg]
    intro hin
    have : Host.clampedStart ⟨3, ![200, 8, 6]⟩ ⟨3, ![1, 8, 6]⟩ h.1 start 0 ≤ r.val ∧ r.val < Host.clampedStart ⟨3, ![200, 8, 6]⟩ ⟨3, ![1, 8, 6]⟩ h.1 start 0 + 1 := hin 0
    rw [c0] at this
    exact hr (Fin.ext (by omega))

end Cert.Proof
-- ==== Proof.ReferenceIdeal.Step.lean ====
module

public import proofs.«01_k».proof.Proof.Gen.ReferenceIdeal.Run
public import proofs.«01_k».proof.Proof.Spec
public import proofs.«01_k».proof.Proof.HostReads
public import Idealize.ShloMosaic.Lib.Pointwise

@[expose] public section

set_option maxRecDepth 16384

noncomputable section

namespace Cert.Proof.ReferenceIdeal

open Cert.ReferenceIdeal Cert.ReferenceIdeal.Gen Cert.ReferenceIdeal.Value Cert.Proof

open Idealize.ShloMosaic

theorem lit_bot : Ideal.ofBits .f32 0xFF800000#32 = ⊥ := by simp [Ideal.ofBits, Ideal.ieee]

section
variable (V : Valuation τ sig (Elt Ideal))

/-- The scores still in play of image `b`. -/
abbrev wk (b : Fin 8) : Row := fun n => (V (Proc.devRef .tc main_v50_3) : S8x20000.Idx → Ideal .f32) (ix2 b n)
/-- A coordinate of the boxes, set apart by class, of image `b`. -/
abbrev bx (c : Fin 4) (b : Fin 8) : Row := fun n => (V (Proc.devRef .tc main_v50_1) : S8x20000x4.Idx → Ideal .f32) (ix3 b n c)
/-- A column of the table of image `b`. -/
abbrev tab (c : Fin 6) (b : Fin 8) : Row := fun n => (V (Proc.devRef .tc main_v50_0) : S8x20000x6.Idx → Ideal .f32) (ix3 b n c)

theorem indices_apply (b : Fin 8) (z : Fin 1) :
    (res_main_while0b_indices_15 V : IVec S8x1 32) (ix2 b z) = BitVec.ofNat 32 (first (wk V b)).val :=
  (topK_rows (B := 8) (n := 20000) _ sliceFits_S8x20000_S8x1 b z).2

/-- A place is no negative word, so the wrap of negative places leaves it. -/
theorem place_not_neg (i : Fin 20000) (w : BitVec 32) : Scalar.select (IntOp.cmpi .slt (BitVec.ofNat 32 i.val) 0#32) w (BitVec.ofNat 32 i.val) = BitVec.ofNat 32 i.val := by
  have : (BitVec.ofNat 32 i.val).slt 0#32 = false := by
    rw [BitVec.slt_eq_decide, toInt_place le_rfl]
    simp
  simp [Scalar.select, IntOp.cmpi, this]

theorem box_apply (b : Fin 8) (z : Fin 1) (c : Fin 4) :
    (res_main_while0b_v59 V : S8x1x4.Idx → Ideal .f32) (ix3 b z c) = bx V c b (first (wk V b)) := by
  refine gather_row _ _ _ b z c (first (wk V b)) ?_
  pointwise [res_main_while0b_v58, indices_apply, place_not_neg]

theorem v75_apply (b : Fin 8) (n : Fin 20000) :
    (res_main_while0b_v75 V : S8x20000.Idx → Ideal .f32) (ix2 b n)
      = sharedOf (bx V 0 b) (bx V 1 b) (bx V 2 b) (bx V 3 b) (first (wk V b)) n := by
  pointwise [res_main_while0b_v75, res_main_while0b_v70, box_apply]
  rfl

theorem work_apply (b : Fin 8) (n : Fin 20000) :
    (step_main_v50_3 V : S8x20000.Idx → Ideal .f32) (ix2 b n) = next (bx V 0 b) (bx V 1 b) (bx V 2 b) (bx V 3 b) (wk V b) n := by
  unfold step_main_v50_3
  pointwise [id_eq, v75_apply, box_apply, indices_apply, lit_bot]
  classical exact (select_place _ _ _ _ _).trans (if_congr Iff.rfl rfl rfl)

theorem written_apply (k : Fin 200) (hk : (V (Proc.devRef .tc main_v50_2) : IVec S_ 32) = fun _ => BitVec.ofNat 32 k.val)
    (r : Fin 200) (b : Fin 8) (c : Fin 6) :
    (step_main_v50_4 V : S200x8x6.Idx → Ideal .f32) (ix3 r b c)
      = if r = k then taken (wk V b) (tab V c b) else (V (Proc.devRef .tc main_v50_4) : S200x8x6.Idx → Ideal .f32) (ix3 r b c) := by
  have hb : ∀ z, (Host.topK S8x1 1 (FloatOps.cmpfTotal (F := Ideal) (φ := .f32) .gt) (V (Proc.devRef .tc main_v50_3)) sliceFits_S8x20000_S8x1).1 (ix2 b z) = wk V b (first (wk V b)) :=
    fun z => (topK_rows (B := 8) (n := 20000) _ sliceFits_S8x20000_S8x1 b z).1
  unfold step_main_v50_4
  refine (dus_row _ _ _ _ k ?_ rfl rfl r b c).trans ?_
  · show ((V (Proc.devRef .tc main_v50_2) : IVec S_ 32) _).toInt = _
    rw [hk]
    exact toInt_place (n := 200) (by decide) k
  · refine if_congr Iff.rfl ?_ rfl
    have hg : ∀ idx : IVec S8x1x1 32, idx (ix3 b 0 0) = BitVec.ofNat 32 (first (wk V b)).val → ∀ z,
        Host.gather gather_S8x20000x6_S8x1x1_S8x1x6_2_1_0_0_1_2_116 (V (Proc.devRef .tc main_v50_0) : S8x20000x6.Idx → Ideal .f32) idx (ix3 b z c)
          = tab V c b (first (wk V b)) := fun idx h z => gather_row _ _ _ b z c _ h
    pointwise [id_eq, hb, lit_bot]
    rw [hg _ (by pointwise [res_main_while0b_v54, indices_apply, place_not_neg])]
    exact if_congr Iff.rfl rfl rfl

/-- What the loop holds after `k` turns. -/
structure Holds (k : Nat) (W : Valuation τ sig (Elt Ideal)) : Prop where
  count : (W (Proc.devRef .tc main_v50_2) : IVec S_ 32) = fun _ => BitVec.ofNat 32 k
  table : W (Proc.devRef .tc main_v50_0) = V (Proc.devRef .tc main_v50_0)
  boxes : W (Proc.devRef .tc main_v50_1) = V (Proc.devRef .tc main_v50_1)
  work : ∀ b, wk W b = walk (bx V 0 b) (bx V 1 b) (bx V 2 b) (bx V 3 b) (wk V b) k
  rows : ∀ (r : Fin 200) (b : Fin 8) (c : Fin 6), r.val < k → (W (Proc.devRef .tc main_v50_4) : S200x8x6.Idx → Ideal .f32) (ix3 r b c)
    = taken (walk (bx V 0 b) (bx V 1 b) (bx V 2 b) (bx V 3 b) (wk V b) r.val) (tab V c b)

theorem holds (h0 : (V (Proc.devRef .tc main_v50_2) : IVec S_ 32) = fun _ => 0#32) : ∀ k, k ≤ 200 → Holds V k (STEP^[k] V)
  | 0, _ => ⟨h0, rfl, rfl, fun _ => rfl, fun _ _ _ h => absurd h (Nat.not_lt_zero _)⟩
  | k + 1, hk => by
    have ih := holds h0 k (by omega)
    rw [Function.iterate_succ_apply']
    have hbx : ∀ c b, bx (STEP^[k] V) c b = bx V c b := fun c b => by unfold bx; rw [ih.boxes]
    have htab : ∀ c b, tab (STEP^[k] V) c b = tab V c b := fun c b => by unfold tab; rw [ih.table]
    refine ⟨?_, ?_, ?_, ?_, ?_⟩
    · refine (STEP_main_v50_2 _).trans ?_
      unfold step_main_v50_2
      funext z
      refine (congrArg (fun x : BitVec 32 => x + 1#32) (congrFun ih.count z)).trans ?_
      rw [BitVec.ofNat_add]
    · exact (STEP_main_v50_0 _).trans ih.table
    · exact (STEP_main_v50_1 _).trans ih.boxes
    · intro b
      funext n
      refine (congrFun (STEP_main_v50_3 (STEP^[k] V)) (ix2 b n)).trans ((work_apply _ b n).trans ?_)
      rw [walk_succ, hbx, hbx, hbx, hbx, ih.work]
    · intro r b c hr
      refine (congrFun (STEP_main_v50_4 (STEP^[k] V)) (ix3 r b c)).trans ((written_apply _ ⟨k, by omega⟩ ih.count r b c).trans ?_)
      split
      · rename_i h
        rw [htab, ih.work, h]
      · rename_i h
        exact ih.rows r b c (by
          have : r.val ≠ k := fun e => h (Fin.ext e)
          omega)

/-- Each row the reference returns holds the box taken at its turn. -/
theorem out_apply (h0 : (V (Proc.devRef .tc main_v50_2) : IVec S_ 32) = fun _ => 0#32) (b : Fin 8) (r : Fin 200) (c : Fin 6) :
    (out_main_v51 (STEP^[200] V) : S8x200x6.Idx → Ideal .f32) (ix3 b r c)
      = taken (walk (bx V 0 b) (bx V 1 b) (bx V 2 b) (bx V 3 b) (wk V b) r.val) (tab V c b) := by
  refine Eq.trans ?_ ((holds V h0 200 le_rfl).rows r b c r.2)
  pointwise [out_main_v51]

end

end Cert.Proof.ReferenceIdeal
-- ==== Proof.ReferenceIdeal.Reads.lean ====
module

public import proofs.«01_k».proof.Proof.ReferenceIdeal.Entry
public import proofs.«01_k».proof.Proof.ReferenceIdeal.Step
public import proofs.«01_k».proof.Proof.Scene
public import Idealize.ShloMosaic.Lib.Pointwise

@[expose] public section

set_option maxRecDepth 16384

noncomputable section

namespace Cert.Proof.ReferenceIdeal

open Cert.ReferenceIdeal Cert.ReferenceIdeal.Gen Cert.ReferenceIdeal.Value Cert.Proof

open Idealize.ShloMosaic
/-- A maximum over the last of three axes. -/
theorem reduce_max_last {A B C : Nat} (x : (⟨3, ![A, B, C]⟩ : Shape).Idx → EReal) (init : S_.Idx → EReal)
    (h : (⟨3, ![A, B, C]⟩ : Shape).ReducesTo [2] ⟨2, ![A, B]⟩) (b : Fin A) (n : Fin B) :
    Host.reduce max x init h h_S_ (ix2 b n)
      = (Finset.univ : Finset (Fin C)).fold max (init (Shape.Idx.first h_S_)) fun k => x (ix3 b n k) :=
  (Host.reduce_eq_fold max x init h h_S_ (ix2 b n)).trans
    (Shape.ReducesTo.fold_fiber_r3_a2 h (ix2 b n) max _ x)
theorem reduce_bridge (x : FVec Ideal S8x20000x81 .f32) (b : Fin 8) (n : Fin 20000) (y : EReal)
    (h : Host.reduce (α := EReal) max x (constant (F := Ideal) S_ .f32 0xFF800000#32) reducesTo_S8x20000x81_S8x20000_d2 h_S_ (ix2 b n) = y) :
    rawTop x (ix2 b n) = y := by
  rw [← Ideal.maximumf_eq_max (φ := .f32)] at h
  exact h

theorem rawTop_apply (x : FVec Ideal S8x20000x81 .f32) (b : Fin 8) (n : Fin 20000) :
    rawTop x (ix2 b n) = x (ix3 b n (first fun k => x (ix3 b n k))) := by
  refine (reduce_bridge x b n _ (reduce_max_last (A := 8) (B := 20000) (C := 81) x _ reducesTo_S8x20000x81_S8x20000_d2 b n)).trans ?_
  rw [show constant (F := Ideal) S_ .f32 0xFF800000#32 (Shape.Idx.first h_S_) = ⊥ from lit_bot, fold_max_first]

theorem above_bot (y : FVec Ideal S8x20000 .f32) (b : Fin 8) (n : Fin 20000) :
    maximumf (broadcastInDim S8x20000 ![] bcast_S_S8x20000 (constant S_ .f32 0xFF800000#32)) y (ix2 b n) = y (ix2 b n) := by
  pointwise [lit_bot]
  rw [max_eq_right bot_le]

theorem logitTop_apply (x : FVec Ideal S8x20000x81 .f32) (b : Fin 8) (n : Fin 20000) :
    logitTop x (ix2 b n) = x (ix3 b n (first fun k => x (ix3 b n k))) :=
  (above_bot (rawTop x) b n).trans (rawTop_apply x b n)

/-- An anchor's logits. -/
abbrev logits (x : FVec Ideal S8x20000x81 .f32) (b : Fin 8) (n : Fin 20000) : Fin 81 → EReal := fun k => x (ix3 b n k)

theorem powers_apply (x : FVec Ideal S8x20000x81 .f32) (b : Fin 8) (n : Fin 20000) (k : Fin 81) :
    powers x (ix3 b n k) = Ideal.exp (logits x b n k - logits x b n (first (logits x b n))) := by
  unfold powers
  pointwise [logitTop_apply]

theorem probs_apply (x : FVec Ideal S8x20000x81 .f32) (b : Fin 8) (n : Fin 20000) (k : Fin 80) :
    probs x (ix3 b n k) = share (logits x b n) k := by
  have e : (⟨1 + k.val, by omega⟩ : Fin 81) = k.succ := Fin.ext (Nat.add_comm _ _)
  unfold probs share
  pointwise [powers_apply]
  rw [← e]

theorem scores_apply (x : FVec Ideal S8x20000x81 .f32) (b : Fin 8) (n : Fin 20000) (z : Fin 1) :
    scores x (ix3 b n z) = bestScore (logits x b n) := by
  refine (topK_inner (B := 8) (m := 20000) (n := 80) (probs x) sliceFits_S8x20000x80_S8x20000x1 b n z).1.trans ?_
  simp only [probs_apply]
  rfl

theorem classes_apply (x : FVec Ideal S8x20000x81 .f32) (b : Fin 8) (n : Fin 20000) (z : Fin 1) :
    classes x (ix3 b n z) = bestClass (logits x b n) := by
  have h := (topK_inner (B := 8) (m := 20000) (n := 80) (probs x) sliceFits_S8x20000x80_S8x20000x1 b n z).2
  have e : classes x (ix3 b n z) = (((BitVec.ofNat 32 (first fun k => probs x (ix3 b n k)).val).toInt : ℝ) : EReal) :=
    congrArg (fun w : BitVec 32 => (((w.toInt : ℝ)) : EReal)) h
  rw [e, toInt_place (by decide)]
  simp only [probs_apply]
  rfl

/-- An image's offsets, and the priors. -/
abbrev offs (x : FVec Ideal S8x20000x4 .f32) (b : Fin 8) : Fin 20000 → Fin 4 → EReal := fun n k => x (ix3 b n k)
abbrev pris (y : FVec Ideal S20000x4 .f32) : Fin 20000 → Fin 4 → EReal := fun n k => y (ix2 n k)

theorem extents_apply (x : FVec Ideal S8x20000x4 .f32) (y : FVec Ideal S20000x4 .f32) (b : Fin 8) (n : Fin 20000) (k : Fin 2) :
    extents x y (ix3 b n k) = extent (offs x b n ⟨2 + k.val, by omega⟩) (pris y n ⟨2 + k.val, by omega⟩) := by
  unfold extents extent
  pointwise []

theorem corners_apply (x : FVec Ideal S8x20000x4 .f32) (y : FVec Ideal S20000x4 .f32) (b : Fin 8) (n : Fin 20000) (k : Fin 2) :
    corners x y (ix3 b n k) = lower (offs x b n ⟨k.val, by omega⟩) (offs x b n ⟨2 + k.val, by omega⟩)
      (pris y n ⟨k.val, by omega⟩) (pris y n ⟨2 + k.val, by omega⟩) := by
  unfold corners lower
  pointwise [extents_apply]

theorem decoded_apply (x : FVec Ideal S8x20000x4 .f32) (y : FVec Ideal S20000x4 .f32) (b : Fin 8) (n : Fin 20000) (k : Fin 4) :
    decoded x y (ix3 b n k) = coord (offs x b) (pris y) k n := by
  unfold decoded
  match k with
  | 0 => pointwise [extents_apply, corners_apply]; rfl
  | 1 => pointwise [extents_apply, corners_apply]; rfl
  | 2 => pointwise [extents_apply, corners_apply]; rfl
  | 3 => pointwise [extents_apply, corners_apply]; rfl

theorem apart_apply (x : FVec Ideal S8x20000x4 .f32) (y : FVec Ideal S20000x4 .f32) (s : FVec Ideal S8x20000x1 .f32) (b : Fin 8) (n : Fin 20000) (k : Fin 4) :
    apart x s y (ix3 b n k) = spread (coord (offs x b) (pris y)) (fun n => s (ix3 b n 0)) k n := by
  unfold apart spread reach
  rw [← fold_max_four]
  pointwise [decoded_apply]
  rw [lit_bot]

theorem openWork_apply (s : FVec Ideal S8x20000x1 .f32) (b : Fin 8) (n : Fin 20000) :
    openWork s (ix2 b n) = opening (fun n => s (ix3 b n 0)) n := by
  unfold openWork opening
  pointwise [lit_bot]

theorem table_apply (x : FVec Ideal S8x20000x4 .f32) (y : FVec Ideal S20000x4 .f32) (s k : FVec Ideal S8x20000x1 .f32) (b : Fin 8) (n : Fin 20000) :
    (∀ c : Fin 4, table x s k y (ix3 b n (Fin.castLE (by decide) c)) = coord (offs x b) (pris y) c n)
      ∧ table x s k y (ix3 b n 4) = s (ix3 b n 0) ∧ table x s k y (ix3 b n 5) = k (ix3 b n 0) := by
  unfold table
  refine ⟨fun c => ?_, ?_, ?_⟩
  · pointwise [decoded_apply]
    exact dif_pos c.2
  · pointwise [decoded_apply]
  · pointwise [decoded_apply]

end Cert.Proof.ReferenceIdeal
-- ==== Proof.ReferenceIdeal.Answer.lean ====
module

public import proofs.«01_k».proof.Proof.ReferenceIdeal.Reads
public import proofs.«01_k».proof.Proof.Finite

@[expose] public section

set_option maxRecDepth 16384

noncomputable section

namespace Cert.Proof.ReferenceIdeal

open Cert.ReferenceIdeal Cert.ReferenceIdeal.Gen Cert.ReferenceIdeal.Value Cert.Proof

open Idealize.ShloMosaic Idealize.ShloMosaic.TcCoe
open Idealize.SL.Sem
open Idealize.ShloMosaic.StableHlo

variable (m : (ℓ : Loc nD τ sig) → Buf (Elt Ideal) ℓ) (c : Dev nD)

theorem bx_entry (k : Fin 4) (b : Fin 8) : bx (entryContents preI m c) k b
    = spread (coord (offs (in0 m c) b) (pris (in2 m c))) (fun n => bestClass (logits (in1 m c) b n)) k := by
  funext n
  have h : spread (coord (offs (in0 m c) b) (pris (in2 m c))) (fun n => classes (in1 m c) (ix3 b n 0)) k n = _ :=
    (apart_apply (in0 m c) (in2 m c) (classes (in1 m c)) b n k).symm
  simp only [classes_apply] at h
  rw [h]
  exact congrFun (entry_1 m c) (ix3 b n k)

theorem wk_entry (b : Fin 8) : wk (entryContents preI m c) b = opening fun n => bestScore (logits (in1 m c) b n) := by
  funext n
  have h := openWork_apply (scores (in1 m c)) b n
  simp only [scores_apply] at h
  rw [← h]
  exact congrFun (entry_3 m c) (ix2 b n)

/-- A column of the reference's table: a box coordinate, the score or the class. -/
theorem column (x : FVec Ideal S8x20000x4 .f32) (y : FVec Ideal S20000x4 .f32) (s t : FVec Ideal S8x20000x1 .f32) (b : Fin 8) (n : Fin 20000) (k : Fin 6) :
    table x s t y (ix3 b n k)
      = (![coord (offs x b) (pris y) 0, coord (offs x b) (pris y) 1, coord (offs x b) (pris y) 2, coord (offs x b) (pris y) 3,
          fun n => s (ix3 b n 0), fun n => t (ix3 b n 0)] : Fin 6 → Row) k n := by
  obtain ⟨h, hs, ht⟩ := table_apply x y s t b n
  have h0 : table x s t y (ix3 b n 0) = coord (offs x b) (pris y) 0 n := h 0
  have h1 : table x s t y (ix3 b n 1) = coord (offs x b) (pris y) 1 n := h 1
  have h2 : table x s t y (ix3 b n 2) = coord (offs x b) (pris y) 2 n := h 2
  have h3 : table x s t y (ix3 b n 3) = coord (offs x b) (pris y) 3 n := h 3
  clear h
  match k with
  | 0 => exact h0
  | 1 => exact h1
  | 2 => exact h2
  | 3 => exact h3
  | 4 => exact hs
  | 5 => exact ht

/-- The table the loop starts with, column by column. -/
theorem tab_entry (k : Fin 6) (b : Fin 8) : tab (entryContents preI m c) k b
    = (![coord (offs (in0 m c) b) (pris (in2 m c)) 0, coord (offs (in0 m c) b) (pris (in2 m c)) 1,
        coord (offs (in0 m c) b) (pris (in2 m c)) 2, coord (offs (in0 m c) b) (pris (in2 m c)) 3,
        fun n => bestScore (logits (in1 m c) b n), fun n => bestClass (logits (in1 m c) b n)] : Fin 6 → Row) k := by
  funext n
  refine (congrFun (entry_0 m c) (ix3 b n k)).trans ?_
  refine (column (in0 m c) (in2 m c) (scores (in1 m c)) (classes (in1 m c)) b n k).trans ?_
  simp only [scores_apply, classes_apply]

/-- What the reference returns. -/
theorem out_eq (b : Fin 8) (r : Fin 200) (k : Fin 6) :
    (out_main_v51 (STEP^[200] (entryContents preI m c)) : S8x200x6.Idx → Ideal .f32) (ix3 b r k)
      = answer (offs (in0 m c) b) (pris (in2 m c)) (logits (in1 m c) b) r.val k := by
  rw [out_apply (entryContents preI m c) (ctr_entry m c) b r k, tab_entry, wk_entry, bx_entry, bx_entry, bx_entry, bx_entry]
  rfl

end Cert.Proof.ReferenceIdeal
-- ==== Proof.Pre.lean ====
module

public import proofs.«01_k».proof.Pre_finite
public import proofs.«01_k».proof.Proof.Shares
public import Idealize.ShloMosaic.Lib.ReduceAll
public import Idealize.ShloMosaic.Lib.Affine
public import Idealize.ShloMosaic.Lib.Pointwise

/-! # What the precondition says: every entry of the offsets and the priors is a real number -/

@[expose] public section

set_option maxRecDepth 16384

noncomputable section

namespace Cert.Proof

open Idealize.ShloMosaic Cert.Pre_finite

/-- The predicate's shapes fit. -/
theorem finiteFacts : Cert.Pre_finite.Facts where
  bcast_S_S8x20000x4 := by decide
  reducesTo_S8x20000x4_S_d0_1_2 := by decide
  h_S_ := by decide
  bcast_S_S20000x4 := by decide
  reducesTo_S20000x4_S_d0_1 := by decide

/-- The bound the entries are compared with is the top. -/
theorem bound_top : Ideal.ofBits .f32 0x7F800000#32 = (⊤ : EReal) := by
  simp [Ideal.ofBits, Ideal.ieee]

theorem isReal_below {a t : EReal} (ht : t = ⊤) (h : BitVec.ofBool (decide (max a (-a) < t)) = 1#1) : IsReal a := by
  subst ht
  have h' : max a (-a) < ⊤ := by
    by_contra hn
    rw [decide_eq_false hn] at h
    exact absurd h (by decide)
  have h1 : a ≠ ⊤ := fun e => by simp [e] at h'
  have h2 : a ≠ ⊥ := fun e => by simp [e] at h'
  exact ⟨a.toReal, (EReal.coe_toReal h1 h2).symm⟩

/-- An array all of whose magnitudes compare below the top holds real numbers only. -/
theorem all_real {s : Shape} (x : FVec Ideal s .f32) (hb : S_.BroadcastsInDim s (![] : Fin 0 → Fin s.rank)) {axes : List (Fin s.rank)}
    (h : s.ReducesTo axes S_) (hu : 0 < S_.numel) (j : S_.Idx)
    (e : Host.reduce IntOp.andi (cmpf .olt (Host.absf x) (broadcastInDim s ![] hb (constant (F := Ideal) S_ .f32 0x7F800000#32))) (constantI S_ 1 1#1) h hu j = 1#1)
    (i : s.Idx) : IsReal (x i) :=
  isReal_below bound_top (Host.reduce_andi_all _ _ _ _ j e i)

theorem finite_real [Cert.Pre_finite.Facts] (x : FVec Ideal S8x20000x4 .f32) (l : FVec Ideal S8x20000x81 .f32) (y : FVec Ideal S20000x4 .f32)
    (h : Cert.Pre_finite.fn (F := Ideal) x l y = fun _ => 1#1) :
    (∀ i, IsReal (x i)) ∧ ∀ i, IsReal (y i) := by
  have e := congrFun h ix0
  obtain ⟨hx, hy⟩ := IntOp.andi_eq_one.1 e
  exact ⟨all_real x Facts.bcast_S_S8x20000x4 Facts.reducesTo_S8x20000x4_S_d0_1_2 Facts.h_S_ ix0 hx,
    all_real y Facts.bcast_S_S20000x4 Facts.reducesTo_S20000x4_S_d0_1 Facts.h_S_ ix0 hy⟩

end Cert.Proof
-- ==== Proof.Same.lean ====
module

public import proofs.«01_k».proof.Defs
public import proofs.«01_k».proof.Proof.KernelIdeal.Answer
public import proofs.«01_k».proof.Proof.KernelIdeal.LaneValue
public import proofs.«01_k».proof.Proof.KernelIdeal.Value
public import proofs.«01_k».proof.Proof.ReferenceIdeal.Answer
public import proofs.«01_k».proof.Proof.Pre

/-! # The kernel and the reference return the same rows -/

@[expose] public section

set_option maxRecDepth 16384

noncomputable section

namespace Cert.Proof

open Idealize.ShloMosaic Idealize.ShloMosaic.TcCoe Idealize.ShloMosaic.StableHlo
open Idealize.SL.Sem

namespace KernelIdeal

open Cert.KernelIdeal Cert.KernelIdeal.Gen

section
variable (x : FVec Ideal S8x20000x4 .f32) (l : FVec Ideal S8x20000x81 .f32) (y : FVec Ideal S20000x4 .f32) (b : Fin 8)

/-- The kernel's planes hold the arguments, rearranged. -/
theorem offs_planes : kOffs (transpose S4x8x20000 [2, 0, 1] x transposes_S8x20000x4_S4x8x20000_2_0_1) b = fun n k => x (ix3 b n k) := by
  funext n k
  pointwise []

theorem pris_planes : kPris (broadcastInDim S4x1x20000 ![0, 2] bcast_S4x20000_S4x1x20000_0_2 (transpose S4x20000 [1, 0] y transposes_S20000x4_S4x20000_1_0))
    = fun n k => y (ix2 n k) := by
  funext n k
  pointwise []

theorem lane_planes (n : Fin 20000) : lane (F := Ideal) (transpose S81x8x20000 [2, 0, 1] l transposes_S8x20000x81_S81x8x20000_2_0_1) (ix2 b n)
    = fun k => l (ix3 b n k) := by
  funext k
  unfold lane
  pointwise []

theorem scores_planes : rowOf (scoreOf (F := Ideal) (transpose S81x8x20000 [2, 0, 1] l transposes_S8x20000x81_S81x8x20000_2_0_1)) b
    = fun n => bestScore fun k => l (ix3 b n k) := by
  funext n
  show laneScore (F := Ideal) (lane (F := Ideal) _ (ix2 b n)) = _
  rw [lane_planes, laneScore_eq]

theorem classes_planes (n : Fin 20000) :
    IsReal (rowOf (clsOf (F := Ideal) (transpose S81x8x20000 [2, 0, 1] l transposes_S8x20000x81_S81x8x20000_2_0_1)) b n)
      ∧ (rowOf (clsOf (F := Ideal) (transpose S81x8x20000 [2, 0, 1] l transposes_S8x20000x81_S81x8x20000_2_0_1)) b n = bestClass (fun k => l (ix3 b n k))
        ∨ bestScore (fun k => l (ix3 b n k)) = ⊥) := by
  have h : rowOf (clsOf (F := Ideal) (transpose S81x8x20000 [2, 0, 1] l transposes_S8x20000x81_S81x8x20000_2_0_1)) b n
      = laneCls (F := Ideal) fun k => l (ix3 b n k) := congrArg (laneCls (F := Ideal)) (lane_planes l b n)
  rw [h]
  exact ⟨laneCls_real _, laneCls_eq _⟩

/-- What the selections leave, of the arguments. -/
theorem planes_joined (hx : ∀ i, IsReal (x i)) (hy : ∀ i, IsReal (y i)) (r : Fin 200) (k : Fin 6) :
    joined (picked (transpose S4x8x20000 [2, 0, 1] x transposes_S8x20000x4_S4x8x20000_2_0_1)
        (broadcastInDim S4x1x20000 ![0, 2] bcast_S4x20000_S4x1x20000_0_2 (transpose S4x20000 [1, 0] y transposes_S20000x4_S4x20000_1_0))
        (scoreOf (F := Ideal) (transpose S81x8x20000 [2, 0, 1] l transposes_S8x20000x81_S81x8x20000_2_0_1))
        (clsOf (F := Ideal) (transpose S81x8x20000 [2, 0, 1] l transposes_S8x20000x81_S81x8x20000_2_0_1))) (ix3 b r k)
      = answer (fun n k => x (ix3 b n k)) (fun n k => y (ix2 n k)) (fun n k => l (ix3 b n k)) r.val k := by
  rw [joined_eq _ _ _ _ b (fun n k => l (ix3 b n k)) (fun n k => by rw [offs_planes]; exact hx _) (fun n k => by rw [pris_planes]; exact hy _)
    (scores_planes l b) (fun n => (classes_planes l b n).1) (fun n => (classes_planes l b n).2), offs_planes, pris_planes]

end

/-- The kernel's result, of finite offsets and priors. -/
theorem final_joined (m : (ℓ : Loc nD τ sig) → Buf (Elt Ideal) ℓ) (c : Dev nD)
    (x : FVec Ideal S8x20000x4 .f32) (l : FVec Ideal S8x20000x81 .f32) (y : FVec Ideal S20000x4 .f32)
    (ex : m (c, Proc.devRef .tc main_arg0) = x) (el : m (c, Proc.devRef .tc main_arg1) = l) (ey : m (c, Proc.devRef .tc main_arg2) = y)
    (hx : ∀ i, IsReal (x i)) (hy : ∀ i, IsReal (y i)) (b : Fin 8) (r : Fin 200) (k : Fin 6) :
    joined (final m c) (ix3 b r k) = answer (fun n k => x (ix3 b n k)) (fun n k => y (ix2 n k)) (fun n k => l (ix3 b n k)) r.val k := by
  rw [final_eq, V1_v0, V1_v1, V1_v3, ex, el, ey]
  exact planes_joined x l y b hx hy r k

end KernelIdeal

/-- An index of a rank-3 array is its three coordinates. -/
theorem ix3_self {A B C : Nat} (i : (⟨3, ![A, B, C]⟩ : Shape).Idx) : i = ix3 (i 0) (i 1) (i 2) := by
  funext d
  match d with
  | 0 => rfl
  | 1 => rfl
  | 2 => rfl

/-- From the same arguments, the offsets and priors finite, the two results are one array. -/
theorem same (m : (ℓ : Loc Cert.KernelIdeal.nD Cert.KernelIdeal.τ Cert.KernelIdeal.sig) → Buf (Elt Ideal) ℓ) (c : Dev Cert.KernelIdeal.nD)
    (m' : (ℓ : Loc Cert.ReferenceIdeal.nD Cert.ReferenceIdeal.τ Cert.ReferenceIdeal.sig) → Buf (Elt Ideal) ℓ) (c' : Dev Cert.ReferenceIdeal.nD)
    (x : FVec Ideal Cert.KernelIdeal.S8x20000x4 .f32) (l : FVec Ideal Cert.KernelIdeal.S8x20000x81 .f32) (y : FVec Ideal Cert.KernelIdeal.S20000x4 .f32)
    (ex : m (c, Proc.devRef .tc Cert.KernelIdeal.main_arg0) = x) (el : m (c, Proc.devRef .tc Cert.KernelIdeal.main_arg1) = l)
    (ey : m (c, Proc.devRef .tc Cert.KernelIdeal.main_arg2) = y)
    (ex' : ReferenceIdeal.in0 m' c' = x) (el' : ReferenceIdeal.in1 m' c' = l) (ey' : ReferenceIdeal.in2 m' c' = y)
    (hx : ∀ i, IsReal (x i)) (hy : ∀ i, IsReal (y i)) :
    (Cert.ReferenceIdeal.Value.out_main_v51 (Cert.ReferenceIdeal.Value.STEP^[200] (entryContents Cert.ReferenceIdeal.Value.preI m' c'))
        : Cert.ReferenceIdeal.S8x200x6.Idx → Ideal .f32)
      = KernelIdeal.joined (KernelIdeal.final m c) := by
  funext i
  rw [ix3_self i]
  refine (ReferenceIdeal.out_eq m' c' (i 0) (i 1) (i 2)).trans ?_
  rw [ex', el', ey']
  exact (KernelIdeal.final_joined m c x l y ex el ey hx hy (i 0) (i 1) (i 2)).symm

/-- The algebraic claim. -/
theorem algebraic : algebraic_KernelIdeal_ReferenceIdeal_pre_finite (hKernelIdeal := Cert.KernelIdeal.Gen.facts)
    (hReferenceIdeal := Cert.ReferenceIdeal.Gen.facts) (hPre_finite := finiteFacts) := by
  intro m g m' g' hpre hargs
  refine ⟨fun c => KernelIdeal.joined (KernelIdeal.final m c), KernelIdeal.value_run m g, ?_⟩
  refine (θ_run _ _ _).mono (fun r h c => ?_) (Cert.ReferenceIdeal.Value.run (F := Ideal) m' g')
  obtain ⟨h0, h1, h2, h3⟩ := h c
  refine ⟨h0.trans ?_, h1, h2, h3⟩
  letI := finiteFacts
  obtain ⟨hx, hy⟩ := finite_real _ _ _ (hpre c)
  obtain ⟨a0, a1, a2⟩ := hargs c
  exact same m c m' c _ _ _ rfl rfl rfl a0 a1 a2 hx hy

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Same

/-! # The claims -/

@[expose] public section
namespace Cert.Proof

theorem claim : Cert.Claim :=
  ⟨Cert.Kernel.Gen.facts, Cert.KernelIdeal.Gen.facts, Cert.ReferenceIdeal.Gen.facts, finiteFacts,
    frame_kernel, frame_ideal, fun m g _ => frame_ideal m g trivial, frame_reference, fun m g _ => frame_reference m g trivial, trivial, algebraic⟩

end Cert.Proof
end
